-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33_0) = v0 c
          ∧ r.2.mem ((c.tc : Thread Cert.ReferenceIdeal.nD Cert.ReferenceIdeal.τ).loc Cert.ReferenceIdeal.main_v33_1) = v1 c
          ∧ r.2.mem ((c.tc : Thread Cert.ReferenceIdeal.nD Cert.ReferenceIdeal.τ).loc Cert.ReferenceIdeal.main_v33_2) = v2 c
          ∧ r.2.mem ((c.tc : Thread Cert.ReferenceIdeal.nD Cert.ReferenceIdeal.τ).loc Cert.ReferenceIdeal.main_v33_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x4096 : Shape := ⟨3, ![2, 1024, 4096]⟩
abbrev S2x1024x32 : Shape := ⟨3, ![2, 1024, 32]⟩
abbrev S4096x576 : Shape := ⟨2, ![4096, 576]⟩
abbrev S32x5 : Shape := ⟨2, ![32, 5]⟩
abbrev S512 : Shape := ⟨1, ![512]⟩
abbrev S2x1024 : Shape := ⟨2, ![2, 1024]⟩
abbrev S2x1024x512 : Shape := ⟨3, ![2, 1024, 512]⟩
abbrev S2x1024x64 : Shape := ⟨3, ![2, 1024, 64]⟩
abbrev S128 : Shape := ⟨1, ![128]⟩
abbrev S1x128 : Shape := ⟨2, ![1, 128]⟩
abbrev S2048x4096 : Shape := ⟨2, ![2048, 4096]⟩
abbrev S2048x32 : Shape := ⟨2, ![2048, 32]⟩
abbrev S1x512 : Shape := ⟨2, ![1, 512]⟩
abbrev S2048x512 : Shape := ⟨2, ![2048, 512]⟩
abbrev S2048x64 : Shape := ⟨2, ![2048, 64]⟩
abbrev S8x2x512 : Shape := ⟨3, ![8, 2, 512]⟩
abbrev S2048x576 : Shape := ⟨2, ![2048, 576]⟩
abbrev S2048x5 : Shape := ⟨2, ![2048, 5]⟩
abbrev S256x4096 : Shape := ⟨2, ![256, 4096]⟩
abbrev S256x32 : Shape := ⟨2, ![256, 32]⟩
abbrev S2x256 : Shape := ⟨2, ![2, 256]⟩
abbrev S256x512 : Shape := ⟨2, ![256, 512]⟩
abbrev S256x64 : Shape := ⟨2, ![256, 64]⟩
abbrev S1x2x512 : Shape := ⟨3, ![1, 2, 512]⟩
abbrev S256x576 : Shape := ⟨2, ![256, 576]⟩
abbrev S256x5 : Shape := ⟨2, ![256, 5]⟩
abbrev S1x1 : Shape := ⟨2, ![1, 1]⟩
abbrev S128x128 : Shape := ⟨2, ![128, 128]⟩
abbrev S128x64 : Shape := ⟨2, ![128, 64]⟩
abbrev S256x1 : Shape := ⟨2, ![256, 1]⟩
abbrev S256x128 : Shape := ⟨2, ![256, 128]⟩
abbrev S4096x512 : Shape := ⟨2, ![4096, 512]⟩
abbrev S32x128 : Shape := ⟨2, ![32, 128]⟩
abbrev S2x128 : Shape := ⟨2, ![2, 128]⟩
abbrev S8x128 : Shape := ⟨2, ![8, 128]⟩
abbrev S32 : Shape := ⟨1, ![32]⟩
abbrev S32x1 : Shape := ⟨2, ![32, 1]⟩
abbrev S1x256 : Shape := ⟨2, ![1, 256]⟩
abbrev S32x256 : Shape := ⟨2, ![32, 256]⟩
abbrev S32x64 : Shape := ⟨2, ![32, 64]⟩
abbrev S1x1x512 : Shape := ⟨3, ![1, 1, 512]⟩

abbrev nBuf : Space → Nat
  | .hbm => 19
  | .vmem => 25
  | .smem => 1
  | _ => 0

abbrev bufTy : (tb : Table) → Fin (tcTables nBuf tb) → BufTy
  | .hbm, ⟨0, _⟩ => ⟨S2x1024x4096, .fp8e4m3⟩
  | .hbm, ⟨1, _⟩ => ⟨S2x1024x32, .f32⟩
  | .hbm, ⟨2, _⟩ => ⟨S4096x576, .fp8e4m3⟩
  | .hbm, ⟨3, _⟩ => ⟨S32x5, .f32⟩
  | .hbm, ⟨4, _⟩ => ⟨S512, .f32⟩
  | .hbm, ⟨5, _⟩ => ⟨S2x1024, .i32⟩
  | .hbm, ⟨6, _⟩ => ⟨S2x1024x512, .bf16⟩
  | .hbm, ⟨7, _⟩ => ⟨S2x1024x64, .bf16⟩
  | .hbm, ⟨8, _⟩ => ⟨S128, .f32⟩
  | .hbm, ⟨9, _⟩ => ⟨S1x128, .f32⟩
  | .hbm, ⟨10, _⟩ => ⟨S2048x4096, .fp8e4m3⟩
  | .hbm, ⟨11, _⟩ => ⟨S2048x32, .f32⟩
  | .hbm, ⟨12, _⟩ => ⟨S1x512, .f32⟩
  | .hbm, ⟨13, _⟩ => ⟨S2048x512, .bf16⟩
  | .hbm, ⟨14, _⟩ => ⟨S2048x64, .bf16⟩
  | .hbm, ⟨15, _⟩ => ⟨S2048x4096, .bf16⟩
  | .hbm, ⟨16, _⟩ => ⟨S8x2x512, .f32⟩
  | .hbm, ⟨17, _⟩ => ⟨S2048x576, .fp8e5m2⟩
  | .hbm, ⟨18, _⟩ => ⟨S2048x5, .f32⟩
  | .local _ .vmem, ⟨0, _⟩ => ⟨S256x4096, .fp8e4m3⟩
  | .local _ .vmem, ⟨1, _⟩ => ⟨S256x4096, .fp8e4m3⟩
  | .local _ .vmem, ⟨2, _⟩ => ⟨S256x32, .f32⟩
  | .local _ .vmem, ⟨3, _⟩ => ⟨S256x32, .f32⟩
  | .local _ .vmem, ⟨4, _⟩ => ⟨S4096x576, .fp8e4m3⟩
  | .local _ .vmem, ⟨5, _⟩ => ⟨S1x512, .f32⟩
  | .local _ .vmem, ⟨6, _⟩ => ⟨S1x128, .f32⟩
  | .local _ .vmem, ⟨7, _⟩ => ⟨S2x256, .i32⟩
  | .local _ .vmem, ⟨8, _⟩ => ⟨S2x256, .i32⟩
  | .local _ .vmem, ⟨9, _⟩ => ⟨S256x512, .bf16⟩
  | .local _ .vmem, ⟨10, _⟩ => ⟨S256x512, .bf16⟩
  | .local _ .vmem, ⟨11, _⟩ => ⟨S256x64, .bf16⟩
  | .local _ .vmem, ⟨12, _⟩ => ⟨S256x64, .bf16⟩
  | .local _ .vmem, ⟨13, _⟩ => ⟨S256x4096, .bf16⟩
  | .local _ .vmem, ⟨14, _⟩ => ⟨S256x4096, .bf16⟩
  | .local _ .vmem, ⟨15, _⟩ => ⟨S1x2x512, .f32⟩
  | .local _ .vmem, ⟨16, _⟩ => ⟨S1x2x512, .f32⟩
  | .local _ .vmem, ⟨17, _⟩ => ⟨S256x576, .fp8e5m2⟩
  | .local _ .vmem, ⟨18, _⟩ => ⟨S256x576, .fp8e5m2⟩
  | .local _ .vmem, ⟨19, _⟩ => ⟨S256x5, .f32⟩
  | .local _ .vmem, ⟨20, _⟩ => ⟨S256x5, .f32⟩
  | .local _ .vmem, ⟨21, _⟩ => ⟨S4096x576, .bf16⟩
  | .local _ .vmem, ⟨22, _⟩ => ⟨S256x4096, .bf16⟩
  | .local _ .vmem, ⟨23, _⟩ => ⟨S256x512, .bf16⟩
  | .local _ .vmem, ⟨24, _⟩ => ⟨S256x576, .bf16⟩
  | .local _ .smem, ⟨0, _⟩ => ⟨S32x5, .f32⟩
  | _, _ => ⟨S2x1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c8_i32 : BitVec 32 := 8#32
  let v4 : BitVec 1 := Scalar.cmpi .slt arg0 c8_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c8_i32_3 : BitVec 32 := 8#32
  let v8 : BitVec 1 := Scalar.cmpi .eq arg0 c8_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x576 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S32x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x576 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x5 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2x1024x4096 : Shape := ⟨3, ![2, 1024, 4096]⟩
abbrev S2x1024x32 : Shape := ⟨3, ![2, 1024, 32]⟩
abbrev S4096x576 : Shape := ⟨2, ![4096, 576]⟩
abbrev S32x5 : Shape := ⟨2, ![32, 5]⟩
abbrev S512 : Shape := ⟨1, ![512]⟩
abbrev S2x1024 : Shape := ⟨2, ![2, 1024]⟩
abbrev S2x1024x512 : Shape := ⟨3, ![2, 1024, 512]⟩
abbrev S2x1024x64 : Shape := ⟨3, ![2, 1024, 64]⟩
abbrev S32 : Shape := ⟨1, ![32]⟩
abbrev S2x1024x1 : Shape := ⟨3, ![2, 1024, 1]⟩
abbrev S1x1x32 : Shape := ⟨3, ![1, 1, 32]⟩
abbrev S2x1024x32x2 : Shape := ⟨4, ![2, 1024, 32, 2]⟩
abbrev S2x1024x32x1 : Shape := ⟨4, ![2, 1024, 32, 1]⟩
abbrev S252 : Shape := ⟨1, ![252]⟩
abbrev S_ : Shape := ⟨0, ![]⟩
abbrev S2048x4096 : Shape := ⟨2, ![2048, 4096]⟩
abbrev S2048x32 : Shape := ⟨2, ![2048, 32]⟩
abbrev S2048x512 : Shape := ⟨2, ![2048, 512]⟩
abbrev S2048x64 : Shape := ⟨2, ![2048, 64]⟩
abbrev S8x2x512 : Shape := ⟨3, ![8, 2, 512]⟩
abbrev S2048x576 : Shape := ⟨2, ![2048, 576]⟩
abbrev S2048x5 : Shape := ⟨2, ![2048, 5]⟩
abbrev S4096x512 : Shape := ⟨2, ![4096, 512]⟩
abbrev S32x128x4x128 : Shape := ⟨4, ![32, 128, 4, 128]⟩
abbrev S32x4 : Shape := ⟨2, ![32, 4]⟩
abbrev S32x1x4x1 : Shape := ⟨4, ![32, 1, 4, 1]⟩
abbrev S4096x64 : Shape := ⟨2, ![4096, 64]⟩
abbrev S32x128x64 : Shape := ⟨3, ![32, 128, 64]⟩
abbrev S32x1 : Shape := ⟨2, ![32, 1]⟩
abbrev S32x1x1 : Shape := ⟨3, ![32, 1, 1]⟩
abbrev S2048x32x128 : Shape := ⟨3, ![2048, 32, 128]⟩
abbrev S2048x32x1 : Shape := ⟨3, ![2048, 32, 1]⟩
abbrev S2048 : Shape := ⟨1, ![2048]⟩
abbrev S2048x1 : Shape := ⟨2, ![2048, 1]⟩
abbrev S8x2x128x512 : Shape := ⟨4, ![8, 2, 128, 512]⟩
abbrev S1x512 : Shape := ⟨2, ![1, 512]⟩
abbrev S2048x4x128 : Shape := ⟨3, ![2048, 4, 128]⟩
abbrev S2048x4 : Shape := ⟨2, ![2048, 4]⟩
abbrev S2048x5x1 : Shape := ⟨3, ![2048, 5, 1]⟩
abbrev S1x1x252 : Shape := ⟨3, ![1, 1, 252]⟩
abbrev S2048x5x252 : Shape := ⟨3, ![2048, 5, 252]⟩
abbrev S2048x4x1 : Shape := ⟨3, ![2048, 4, 1]⟩

abbrev nBuf : Space → Nat
  | .hbm => 47
  | .vmem => 12
  | .smem => 0
  | _ => 0

abbrev bufTy : (tb : Table) → Fin (tcTables nBuf tb) → BufTy
  | .hbm, ⟨0, _⟩ => ⟨S2x1024x4096, .fp8e4m3⟩
  | .hbm, ⟨1, _⟩ => ⟨S2x1024x32, .f32⟩
  | .hbm, ⟨2, _⟩ => ⟨S4096x576, .fp8e4m3⟩
  | .hbm, ⟨3, _⟩ => ⟨S32x5, .f32⟩
  | .hbm, ⟨4, _⟩ => ⟨S512, .f32⟩
  | .hbm, ⟨5, _⟩ => ⟨S2x1024, .i32⟩
  | .hbm, ⟨6, _⟩ => ⟨S2x1024x512, .bf16⟩
  | .hbm, ⟨7, _⟩ => ⟨S2x1024x64, .bf16⟩
  | .hbm, ⟨8, _⟩ => ⟨S32, .f32⟩
  | .hbm, ⟨9, _⟩ => ⟨S2x1024, .f32⟩
  | .hbm, ⟨10, _⟩ => ⟨S2x1024x1, .f32⟩
  | .hbm, ⟨11, _⟩ => ⟨S1x1x32, .f32⟩
  | .hbm, ⟨12, _⟩ => ⟨S2x1024x32, .f32⟩
  | .hbm, ⟨13, _⟩ => ⟨S2x1024x32, .f32⟩
  | .hbm, ⟨14, _⟩ => ⟨S2x1024x32, .f32⟩
  | .hbm, ⟨15, _⟩ => ⟨S2x1024x32, .f32⟩
  | .hbm, ⟨16, _⟩ => ⟨S2x1024x32, .f32⟩
  | .hbm, ⟨17, _⟩ => ⟨S2x1024x64, .f32⟩
  | .hbm, ⟨18, _⟩ => ⟨S2x1024x32x2, .f32⟩
  | .hbm, ⟨19, _⟩ => ⟨S2x1024x32x1, .f32⟩
  | .hbm, ⟨20, _⟩ => ⟨S2x1024x32, .f32⟩
  | .hbm, ⟨21, _⟩ => ⟨S2x1024x32x1, .f32⟩
  | .hbm, ⟨22, _⟩ => ⟨S2x1024x32, .f32⟩
  | .hbm, ⟨23, _⟩ => ⟨S2x1024x32, .f32⟩
  | .hbm, ⟨24, _⟩ => ⟨S2x1024x32, .f32⟩
  | .hbm, ⟨25, _⟩ => ⟨S2x1024x32, .f32⟩
  | .hbm, ⟨26, _⟩ => ⟨S2x1024x32, .f32⟩
  | .hbm, ⟨27, _⟩ => ⟨S2x1024x32, .f32⟩
  | .hbm, ⟨28, _⟩ => ⟨S2x1024x32, .f32⟩
  | .hbm, ⟨29, _⟩ => ⟨S2x1024x32, .f32⟩
  | .hbm, ⟨30, _⟩ => ⟨S2x1024x32x1, .f32⟩
  | .hbm, ⟨31, _⟩ => ⟨S2x1024x32x1, .f32⟩
  | .hbm, ⟨32, _⟩ => ⟨S2x1024x32x2, .f32⟩
  | .hbm, ⟨33, _⟩ => ⟨S2x1024x64, .f32⟩
  | .hbm, ⟨34, _⟩ => ⟨S252, .i32⟩
  | .hbm, ⟨35, _⟩ => ⟨S_, .i32⟩
  | .hbm, ⟨36, _⟩ => ⟨S252, .i32⟩
  | .hbm, ⟨37, _⟩ => ⟨S252, .i32⟩
  | .hbm, ⟨38, _⟩ => ⟨S252, .f32⟩
  | .hbm, ⟨39, _⟩ => ⟨S2048x4096, .fp8e4m3⟩
  | .hbm, ⟨40, _⟩ => ⟨S2048x32, .f32⟩
  | .hbm, ⟨41, _⟩ => ⟨S2048x512, .bf16⟩
  | .hbm, ⟨42, _⟩ => ⟨S2048x64, .f32⟩
  | .hbm, ⟨43, _⟩ => ⟨S2048x4096, .bf16⟩
  | .hbm, ⟨44, _⟩ => ⟨S8x2x512, .f32⟩
  | .hbm, ⟨45, _⟩ => ⟨S2048x576, .fp8e5m2⟩
  | .hbm, ⟨46, _⟩ => ⟨S2048x5, .f32⟩
  | .local _ .vmem, ⟨0, _⟩ => ⟨S2048x4096, .fp8e4m3⟩
  | .local _ .vmem, ⟨1, _⟩ => ⟨S2048x32, .f32⟩
  | .local _ .vmem, ⟨2, _⟩ => ⟨S4096x576, .fp8e4m3⟩
  | .local _ .vmem, ⟨3, _⟩ => ⟨S32x5, .f32⟩
  | .local _ .vmem, ⟨4, _⟩ => ⟨S512, .f32⟩
  | .local _ .vmem, ⟨5, _⟩ => ⟨S2048x512, .bf16⟩
  | .local _ .vmem, ⟨6, _⟩ => ⟨S2048x64, .f32⟩
  | .local _ .vmem, ⟨7, _⟩ => ⟨S252, .f32⟩
  | .local _ .vmem, ⟨8, _⟩ => ⟨S2048x4096, .bf16⟩
  | .local _ .vmem, ⟨9, _⟩ => ⟨S8x2x512, .f32⟩
  | .local _ .vmem, ⟨10, _⟩ => ⟨S2048x576, .fp8e5m2⟩
  | .local _ .vmem, ⟨11, _⟩ => ⟨S2048x5, .f32⟩
  | _, _ => ⟨S2x1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33_0 : Ref sig .tc := ⟨.hbm, 43, rfl⟩
abbrev main_v33_1 : Ref sig .tc := ⟨.hbm, 44, rfl⟩
abbrev main_v33_2 : Ref sig .tc := ⟨.hbm, 45, rfl⟩
abbrev main_v33_3 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2048x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x576 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S252 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x576 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x5 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Exponent.lean ====
/- The power-of-two scale of a block, as a function of one extended real: the block's largest magnitude over the format's
   largest. Two computations of it are shown equal to the definition here: a count of the powers of two at or below the
   value, put into a float's exponent field; and the largest listed exponent whose predecessor's power lies at or below the
   value, put through `exp2`. Nothing here names a program. -/
module

public import Idealize.ShloMosaic.Lib.Pointwise

@[expose] public section

noncomputable section

namespace Cert.Spec

open Idealize.ShloMosaic

/-- A power of two, as an extended real. -/
def pow2 (z : ℤ) : EReal := (((2 : ℝ) ^ z : ℝ) : EReal)

theorem pow2_le {a b : ℤ} : pow2 a ≤ pow2 b ↔ a ≤ b := by
  unfold pow2
  rw [EReal.coe_le_coe_iff]
  exact zpow_le_zpow_iff_right₀ (by norm_num)

/-- How many of the 252 powers `2^-126 … 2^125` lie at or below a value. -/
def steps (a : EReal) : ℕ := (Finset.univ.filter fun k : Fin 252 => pow2 ((k.val : ℤ) - 126) ≤ a).card

/-- The scale: the next power of two above the largest listed one at or below the value, and one if there is none. -/
def scaleOf (a : EReal) : EReal := if steps a = 0 then 1 else pow2 ((steps a : ℤ) - 126)
/-- The scale's inverse. -/
def invOf (a : EReal) : EReal := if steps a = 0 then 1 else pow2 (126 - (steps a : ℤ))

/-- A count of the members of a downward closed set of the first `n` numbers says which they are. -/
theorem lt_card_iff {n : ℕ} (p : Fin n → Prop) [DecidablePred p] (hp : ∀ i j : Fin n, i ≤ j → p j → p i) (k : Fin n) :
    k.val < (Finset.univ.filter p).card ↔ p k := by
  constructor
  · intro h
    by_contra hk
    have : Finset.univ.filter p ⊆ Finset.univ.filter fun j : Fin n => j < k := by
      intro j hj
      simp only [Finset.mem_filter, Finset.mem_univ, true_and] at hj ⊢
      by_contra hlt
      exact hk (hp k j (not_lt.mp hlt) hj)
    have hc := Finset.card_le_card this
    have : (Finset.univ.filter fun j : Fin n => j < k).card = k.val := by
      rw [show (Finset.univ.filter fun j : Fin n => j < k) = Finset.Iio k from by ext; simp]
      exact Fin.card_Iio k
    omega
  · intro h
    have : (Finset.univ.filter fun j : Fin n => j ≤ k) ⊆ Finset.univ.filter p := by
      intro j hj
      simp only [Finset.mem_filter, Finset.mem_univ, true_and] at hj ⊢
      exact hp j k hj h
    have hc := Finset.card_le_card this
    have : (Finset.univ.filter fun j : Fin n => j ≤ k).card = k.val + 1 := by
      rw [show (Finset.univ.filter fun j : Fin n => j ≤ k) = Finset.Iic k from by ext; simp]
      exact Fin.card_Iic k
    omega

theorem lt_steps (a : EReal) (k : Fin 252) : k.val < steps a ↔ pow2 ((k.val : ℤ) - 126) ≤ a :=
  lt_card_iff (fun k : Fin 252 => pow2 ((k.val : ℤ) - 126) ≤ a)
    (fun i j hij h => (pow2_le.2 (by have : i.val ≤ j.val := hij; omega)).trans h) k

theorem steps_le (a : EReal) : steps a ≤ 252 := by
  unfold steps
  exact (Finset.card_le_univ _).trans (by simp)

/-! ## A power of two from its exponent field -/

/-- The word with exponent field `k` and nothing else is worth zero, a power of two or the top, in the order of `k`. -/
theorem ofBits_field (k : ℕ) (hk : k < 256) :
    Ideal.ofBits .f32 (IntOp.shli .vector (BitVec.ofNat 32 k) 23#32)
      = if k = 255 then ⊤ else if k = 0 then 0 else pow2 ((k : ℤ) - 127) := by
  have key : ∀ k : Fin 256, ((IntOp.shli .vector (BitVec.ofNat 32 k.val) 23#32).extractLsb' 31 1 == 1#1) = false
      ∧ ((IntOp.shli .vector (BitVec.ofNat 32 k.val) 23#32).extractLsb' 23 8).toNat = k.val
      ∧ ((IntOp.shli .vector (BitVec.ofNat 32 k.val) 23#32).extractLsb' 0 23).toNat = 0 := by decide +kernel
  obtain ⟨h1, h2, h3⟩ := key ⟨k, hk⟩
  simp only at h1 h2 h3
  show Ideal.ieee 8 23 _ = _
  unfold Ideal.ieee
  simp only [show 8 + 23 = 31 from rfl, h1, h2, h3]
  norm_num
  split_ifs with h h'
  · rfl
  · rfl
  · unfold pow2
    refine congrArg (fun r : ℝ => (r : EReal)) ?_
    rw [show (8388608 : ℝ) = 2 ^ (23 : ℤ) by norm_num, ← zpow_add₀ (by norm_num)]
    exact congrArg (fun z : ℤ => (2 : ℝ) ^ z) (by ring)

/-! ## From the count of all 256 powers -/

/-- The power with exponent field `k`. -/
def field (k : ℕ) : EReal := if k = 255 then ⊤ else if k = 0 then 0 else pow2 ((k : ℤ) - 127)

theorem pow2_pos (z : ℤ) : 0 < pow2 z := by
  unfold pow2
  exact_mod_cast (zpow_pos (by norm_num : (0 : ℝ) < 2) z)

theorem field_mono {i j : ℕ} (h : i ≤ j) (hj : j < 256) : field i ≤ field j := by
  unfold field
  split_ifs with h1 h2 h3 h4 h5 h6
  all_goals first | exact le_rfl | exact le_top | exact (pow2_pos _).le | omega | skip
  exact pow2_le.2 (by omega)

/-- The least of 252 and one less than the number of fields at or below a value that is not negative is `steps`. -/
theorem count_field (a : EReal) (ha : 0 ≤ a) :
    min ((Finset.univ.filter fun k : Fin 256 => field k.val ≤ a).card - 1) 252 = steps a := by
  have hc : ∀ k : Fin 256, k.val < (Finset.univ.filter fun k : Fin 256 => field k.val ≤ a).card ↔ field k.val ≤ a :=
    lt_card_iff (fun k : Fin 256 => field k.val ≤ a) (fun i j hij h => (field_mono hij j.isLt).trans h)
  have h0 : 0 < (Finset.univ.filter fun k : Fin 256 => field k.val ≤ a).card :=
    (hc 0).2 (by simpa [field] using ha)
  have hle := steps_le a
  generalize (Finset.univ.filter fun k : Fin 256 => field k.val ≤ a).card = n at hc h0 ⊢
  have hs : ∀ k : ℕ, k < 252 → (k < steps a ↔ k + 1 < n) := fun k hk => by
    rw [lt_steps a ⟨k, hk⟩, hc ⟨k + 1, by omega⟩]
    simp only [field, show k + 1 ≠ 255 by omega, show k + 1 ≠ 0 by omega, if_false]
    rw [show ((k : ℤ) - 126) = ((k + 1 : ℕ) : ℤ) - 127 by push_cast; ring]
  rcases Nat.lt_or_ge (steps a) 252 with h | h
  · have h1 := hs (steps a) h
    rcases Nat.eq_zero_or_pos (steps a) with h2 | h2
    · omega
    · have h3 := hs (steps a - 1) (by omega)
      omega
  · have h3 := hs 251 (by omega)
    omega

theorem count_pos (a : EReal) (ha : 0 ≤ a) : 0 < (Finset.univ.filter fun k : Fin 256 => field k.val ≤ a).card :=
  Finset.card_pos.2 ⟨0, by simpa [field] using ha⟩

/-- A fold of one-bit answers, widened, counts them. -/
theorem fold_addi_eq (n : ℕ) (p : Fin n → Prop) [DecidablePred p] :
    Finset.fold IntOp.addi (0#32) (fun k => BitVec.setWidth 32 (BitVec.ofBool (decide (p k)))) Finset.univ
      = BitVec.ofNat 32 (Finset.univ.filter p).card := by
  classical
  have : ∀ s : Finset (Fin n), Finset.fold IntOp.addi (0#32)
      (fun k => BitVec.setWidth 32 (BitVec.ofBool (decide (p k)))) s = BitVec.ofNat 32 (s.filter p).card := by
    intro s
    induction s using Finset.induction_on with
    | empty => simp
    | insert k s hk ih =>
      rw [Finset.fold_insert hk, ih, Finset.filter_insert]
      by_cases h : p k
      · rw [if_pos h, Finset.card_insert_of_notMem (by simp [hk])]
        simp only [h, decide_true]
        show (1#32 : BitVec 32) + _ = _
        rw [Nat.add_comm, BitVec.ofNat_add]
      · rw [if_neg h]
        simp only [h, decide_false]
        show (0#32 : BitVec 32) + _ = _
        simp
  exact this _

/-- The exponent field as a word: what the count computes. -/
theorem word_steps (a : EReal) (ha : 0 ≤ a) :
    IntOp.minsi (IntOp.subi (Finset.fold IntOp.addi (0#32) (fun k : Fin 256 => BitVec.setWidth 32
      (BitVec.ofBool (decide (Ideal.ofBits .f32 (IntOp.shli .vector (BitVec.ofNat 32 k.val) 23#32) ≤ a)))) Finset.univ) 1#32) 252#32
      = BitVec.ofNat 32 (steps a) := by
  have hf : ∀ k : Fin 256, Ideal.ofBits .f32 (IntOp.shli .vector (BitVec.ofNat 32 k.val) 23#32) = field k.val :=
    fun k => ofBits_field k.val k.isLt
  simp only [hf]
  rw [fold_addi_eq, ← count_field a ha]
  have hp := count_pos a ha
  have hle : (Finset.univ.filter fun k : Fin 256 => field k.val ≤ a).card ≤ 256 := (Finset.card_le_univ _).trans (by simp)
  generalize (Finset.univ.filter fun k : Fin 256 => field k.val ≤ a).card = n at hp hle ⊢
  have key : ∀ n : Fin 257, 0 < n.val → IntOp.minsi (IntOp.subi (BitVec.ofNat 32 n.val) 1#32) 252#32
      = BitVec.ofNat 32 (min (n.val - 1) 252) := by decide +kernel
  exact key ⟨n, by omega⟩ hp

theorem ofBits_scale (n : ℕ) (hn : n ≤ 252) :
    Ideal.ofBits .f32 (IntOp.shli .vector (Scalar.select (IntOp.cmpi .eq (BitVec.ofNat 32 n) 0#32) 127#32
      (IntOp.addi (BitVec.ofNat 32 n) 1#32)) 23#32) = if n = 0 then 1 else pow2 ((n : ℤ) - 126) := by
  have key : ∀ n : Fin 253, Scalar.select (IntOp.cmpi .eq (BitVec.ofNat 32 n.val) 0#32) 127#32
      (IntOp.addi (BitVec.ofNat 32 n.val) 1#32) = BitVec.ofNat 32 (if n.val = 0 then 127 else n.val + 1) := by decide +kernel
  rw [key ⟨n, by omega⟩, ofBits_field _ (by split_ifs <;> omega)]
  by_cases h : n = 0
  · subst h; norm_num [pow2]
  · simp only [h, if_false, show n + 1 ≠ 255 by omega, show n + 1 ≠ 0 by omega]
    congr 1; push_cast; ring

theorem ofBits_inv (n : ℕ) (hn : n ≤ 252) :
    Ideal.ofBits .f32 (IntOp.shli .vector (Scalar.select (IntOp.cmpi .eq (BitVec.ofNat 32 n) 0#32) 127#32
      (IntOp.subi 253#32 (BitVec.ofNat 32 n))) 23#32) = if n = 0 then 1 else pow2 (126 - (n : ℤ)) := by
  have key : ∀ n : Fin 253, Scalar.select (IntOp.cmpi .eq (BitVec.ofNat 32 n.val) 0#32) 127#32
      (IntOp.subi 253#32 (BitVec.ofNat 32 n.val)) = BitVec.ofNat 32 (if n.val = 0 then 127 else 253 - n.val) := by decide +kernel
  rw [key ⟨n, by omega⟩, ofBits_field _ (by split_ifs <;> omega)]
  by_cases h : n = 0
  · subst h; norm_num [pow2]
  · simp only [h, if_false, show 253 - n ≠ 255 by omega, show 253 - n ≠ 0 by omega]
    congr 1; omega

/-! ## From the largest listed exponent -/

theorem exp2_int (z : ℤ) : Ideal.exp2 ((z : ℝ) : EReal) = pow2 z := by
  rw [Ideal.exp2_coe]; unfold pow2; congr 1; exact Real.rpow_intCast 2 z

theorem ofBits_tiny : Ideal.ofBits .f32 0x00800000#32 = pow2 (-126) := by
  have := ofBits_field 1 (by norm_num)
  norm_num at this
  exact this

theorem ofBits_negInf : Ideal.ofBits .f32 0xFF800000#32 = ⊥ := by
  simp [Ideal.ofBits, Ideal.ieee]

theorem ofBits_lowest : Ideal.ofBits .f32 0xC2FA0000#32 = (((-125 : ℤ) : ℝ) : EReal) := by
  simp [Ideal.ofBits, Ideal.ieee, -EReal.coe_mul, -EReal.coe_neg]; norm_num

/-- The greatest listed exponent whose predecessor's power lies at or below the value, the least listed one where none does. -/
theorem fold_max_steps (a : EReal) (e : Fin 252 → EReal) (he : ∀ k : Fin 252, e k = ((((k.val : ℤ) - 125 : ℤ) : ℝ) : EReal)) :
    Finset.fold max ⊥ (fun k : Fin 252 => if pow2 ((k.val : ℤ) - 126) ≤ a then e k else (((-125 : ℤ) : ℝ) : EReal)) Finset.univ
      = (((if steps a = 0 then -125 else (steps a : ℤ) - 126 : ℤ) : ℝ) : EReal) := by
  have hle := steps_le a
  apply le_antisymm
  · rw [Finset.fold_max_le]
    refine ⟨bot_le, fun k _ => ?_⟩
    split_ifs with h1 h2 h2
    · have := (lt_steps a k).2 h1; omega
    · rw [he, EReal.coe_le_coe_iff]; have := (lt_steps a k).2 h1; exact_mod_cast (by omega : (k.val : ℤ) - 125 ≤ (steps a : ℤ) - 126)
    · exact le_rfl
    · rw [EReal.coe_le_coe_iff]; exact_mod_cast (by omega : (-125 : ℤ) ≤ (steps a : ℤ) - 126)
  · rw [Finset.le_fold_max]
    right
    by_cases h : steps a = 0
    · refine ⟨0, Finset.mem_univ _, ?_⟩
      rw [if_pos h]
      split_ifs with h1
      · have := (lt_steps a 0).2 h1; omega
      · exact le_rfl
    · refine ⟨⟨steps a - 1, by omega⟩, Finset.mem_univ _, ?_⟩
      rw [if_neg h, if_pos ((lt_steps a ⟨steps a - 1, by omega⟩).1 (by show steps a - 1 < steps a; omega)), he]
      rw [EReal.coe_le_coe_iff]
      exact_mod_cast (by show (steps a : ℤ) - 126 ≤ ((steps a - 1 : ℕ) : ℤ) - 125; omega)

/-- Below the least power there is no step. -/
theorem lt_tiny_iff (a : EReal) : a < pow2 (-126) ↔ steps a = 0 := by
  have := lt_steps a 0
  rw [← not_le, show ((-126 : ℤ)) = ((0 : Fin 252).val : ℤ) - 126 by norm_num, ← this]
  show ¬ (0 < steps a) ↔ _
  omega

/-- The scale's exponent. -/
def expOf (a : EReal) : ℤ := if steps a = 0 then 0 else (steps a : ℤ) - 126

theorem exp2_expOf (a : EReal) : Ideal.exp2 (((expOf a : ℤ) : ℝ) : EReal) = scaleOf a := by
  rw [exp2_int]; unfold scaleOf expOf; split_ifs <;> simp [pow2]

theorem exp2_neg_expOf (a : EReal) : Ideal.exp2 (0 - (((expOf a : ℤ) : ℝ) : EReal)) = invOf a := by
  rw [zero_sub, ← EReal.coe_neg, ← Int.cast_neg, exp2_int]; unfold invOf expOf; split_ifs
  · simp [pow2]
  · congr 1; ring

end Cert.Spec

end
-- ==== Proof.Spec.lean ====
/- What a token's row of the results is worth, as functions of rows of extended reals: the row statistics, the latent
   gradient, the block magnitudes, the codes, the scales and the dequantised gradient. Nothing here names a program. -/
module

public import proofs.«01_k».proof.Proof.Exponent

@[expose] public section

noncomputable section

namespace Cert.Spec

open Idealize.ShloMosaic

/-- Lane `l` of lane group `g`. -/
def lat (g : Fin 4) (l : Fin 128) : Fin 512 := ⟨128 * g.val + l.val, by omega⟩

/-- A sum over 512 lanes, lane group by lane group. -/
theorem sum_lat {M : Type*} [AddCommMonoid M] (f : Fin 512 → M) :
    ∑ n, f n = ∑ l : Fin 128, (f (lat 0 l) + f (lat 1 l) + f (lat 2 l) + f (lat 3 l)) := by
  have h : ∑ n, f n = ∑ p : Fin 4 × Fin 128, f (lat p.1 p.2) :=
    (Equiv.sum_comp (finProdFinEquiv (m := 4) (n := 128)) f).symm.trans
      (Finset.sum_congr rfl fun p _ => congrArg f (Fin.ext (by
        show p.2.val + 128 * p.1.val = 128 * p.1.val + p.2.val; omega)))
  rw [h, Fintype.sum_prod_type, Fin.sum_univ_four]
  simp only [Finset.sum_add_distrib]

/-- The reciprocal of 512, the norm's epsilon, the reciprocal of the eight-bit format's largest value. -/
def inv512 : EReal := Ideal.ofBits .f32 0x3B000000#32
def eps : EReal := Ideal.ofBits .f32 0x358637BD#32
def invTop : EReal := Ideal.ofBits .f32 0x37924925#32
/-- The eight-bit format's largest and least values. -/
def top : EReal := Ideal.ofBits .f32 0x47600000#32
def bottom : EReal := Ideal.ofBits .f32 0xC7600000#32

/-- Dividing by 512 is multiplying by its reciprocal. -/
theorem div_512 (x : EReal) : Ideal.div x (Ideal.ofBits .f32 0x44000000#32) = x * inv512 := by
  have h : Ideal.ofBits .f32 0x44000000#32 = ((512 : ℝ) : EReal) := by
    simp [Ideal.ofBits, Ideal.ieee, -EReal.coe_mul]; norm_num
  have h' : inv512 = ((512 : ℝ)⁻¹ : ℝ) := by
    unfold inv512; simp [Ideal.ofBits, Ideal.ieee, -EReal.coe_mul]; norm_num
  rw [h, h']
  unfold Ideal.div
  rw [if_neg (by exact_mod_cast (by norm_num : (512 : ℝ) ≠ 0)), ← EReal.coe_inv]

/-- A magnitude. -/
def mag (x : EReal) : EReal := max x (-x)

theorem mag_nonneg (x : EReal) : 0 ≤ mag x := by
  rcases le_total 0 x with h | h
  · exact h.trans (le_max_left _ _)
  · exact (EReal.neg_nonneg.2 h).trans (le_max_right _ _)

theorem invTop_nonneg : 0 ≤ invTop := by
  have : invTop = ((9586981 * 2 ^ (-39 : ℤ) : ℝ) : EReal) := by
    unfold invTop; simp [Ideal.ofBits, Ideal.ieee, -EReal.coe_mul]
  rw [this]; exact_mod_cast (by positivity)

/-- The largest magnitude of a block of lanes, over the format's largest value. -/
def largest {n : ℕ} (x : Fin n → EReal) : EReal := Finset.fold max ⊥ (fun l => mag (x l)) Finset.univ * invTop

theorem largest_nonneg {n : ℕ} (hn : 0 < n) (x : Fin n → EReal) : 0 ≤ largest x := by
  refine mul_nonneg ?_ invTop_nonneg
  rw [Finset.le_fold_max]
  exact .inr ⟨⟨0, hn⟩, Finset.mem_univ _, mag_nonneg _⟩

section Row
variable (c d gn : Fin 512 → EReal) (k : Fin 64 → EReal)

def rstd : EReal := Ideal.rsqrt ((∑ l, c l * c l) * inv512 + eps)
def proj : EReal := rstd c * rstd c * ((∑ l, d l * gn l * c l) * inv512)
/-- The latent gradient. -/
def dc (l : Fin 512) : EReal := rstd c * (d l * gn l - c l * proj c d gn)
/-- The gain gradient's term. -/
def dgainTerm (l : Fin 512) : EReal := d l * c l * rstd c

/-- The row that is quantised: the latent gradient, then the key gradient. -/
def lane (n : Fin 576) : EReal := if h : n.val < 512 then dc c d gn ⟨n.val, h⟩ else k ⟨n.val - 512, by omega⟩
/-- The scaled magnitude of each of the row's five blocks. -/
def block (b : Fin 5) : EReal :=
  if h : b.val < 4 then largest (fun l : Fin 128 => dc c d gn (lat ⟨b.val, h⟩ l)) else largest k
/-- The block of a lane. -/
def blockOf (n : Fin 576) : Fin 5 := ⟨n.val / 128, by omega⟩
def scale (b : Fin 5) : EReal := scaleOf (block c d gn k b)
def code (n : Fin 576) : EReal := min top (max bottom (lane c d gn k n * invOf (block c d gn k (blockOf n))))
/-- The dequantised gradient. -/
def grad (n : Fin 576) : EReal := code c d gn k n * scale c d gn k (blockOf n)

end Row

/-- The key gradient rotated back by a token's position: the pair of an even lane and the next turned by the angle of
    the pair's frequency. -/
def rotate (p : EReal) (f : Fin 32 → EReal) (K : Fin 64 → EReal) (l : Fin 64) : EReal :=
  if h : l.val % 2 = 0 then
    K l * Ideal.cos (p * f ⟨l.val / 2, by omega⟩) + K ⟨l.val + 1, by omega⟩ * Ideal.sin (p * f ⟨l.val / 2, by omega⟩)
  else
    K l * Ideal.cos (p * f ⟨l.val / 2, by omega⟩) + K ⟨l.val - 1, by omega⟩ * (0 - Ideal.sin (p * f ⟨l.val / 2, by omega⟩))

end Cert.Spec

end
-- ==== Proof.Whole.lean ====
/- What the whole program computes, over the extended reals: the widened weight, the latent, the input gradient. -/
module

public import proofs.«01_k».proof.Proof.Spec

@[expose] public section

noncomputable section

namespace Cert.Spec

/-- The block of 128 channels a channel lies in. -/
def chan (k : Fin 4096) : Fin 32 := ⟨k.val / 128, by omega⟩
/-- The lane group of a latent lane. -/
def group (n : Fin 512) : Fin 4 := ⟨n.val / 128, by omega⟩
/-- Its lane inside the group. -/
def within (n : Fin 512) : Fin 128 := ⟨n.val % 128, by omega⟩
/-- A latent lane, and a rotary lane, as a column of the weight. -/
def latCol (n : Fin 512) : Fin 576 := ⟨n.val, by omega⟩
def ropeCol (n : Fin 64) : Fin 576 := ⟨512 + n.val, by omega⟩
/-- A lane group as a block of the row, and the rotary block. -/
def latBlock (g : Fin 4) : Fin 5 := ⟨g.val, by omega⟩

theorem lat_group (n : Fin 512) : lat (group n) (within n) = n := Fin.ext (by
  show 128 * (n.val / 128) + n.val % 128 = n.val; omega)
theorem group_lat (g : Fin 4) (l : Fin 128) : group (lat g l) = g := Fin.ext (by
  show (128 * g.val + l.val) / 128 = g.val; omega)
theorem within_lat (g : Fin 4) (l : Fin 128) : within (lat g l) = l := Fin.ext (by
  show (128 * g.val + l.val) % 128 = l.val; omega)
theorem blockOf_latCol (n : Fin 512) : blockOf (latCol n) = latBlock (group n) := rfl
theorem blockOf_ropeCol (n : Fin 64) : blockOf (ropeCol n) = 4 := Fin.ext (by
  show (512 + n.val) / 128 = 4; omega)

/-- Token `j` of run `r` of block `b` of 256 tokens. -/
def token (b : Fin 8) (r : Fin 2) (j : Fin 128) : Fin 2048 := ⟨256 * b.val + (128 * r.val + j.val), by omega⟩

/-- The dequantised weight. -/
def weight (w : Fin 4096 → Fin 576 → EReal) (ws : Fin 32 → Fin 5 → EReal) (k : Fin 4096) (n : Fin 576) : EReal :=
  w k n * ws (chan k) (blockOf n)
/-- The latent of a token. -/
def latent (x : Fin 4096 → EReal) (xs : Fin 32 → EReal) (wt : Fin 4096 → Fin 576 → EReal) (n : Fin 512) : EReal :=
  ∑ k, x k * xs (chan k) * wt k (latCol n)
/-- The input gradient of a token. -/
def inputGrad (g : Fin 576 → EReal) (wt : Fin 4096 → Fin 576 → EReal) (k : Fin 4096) : EReal := ∑ n, g n * wt k n

section
variable (c d gn : Fin 512 → EReal) (k : Fin 64 → EReal)

theorem lane_latCol (n : Fin 512) : lane c d gn k (latCol n) = dc c d gn n := dif_pos n.isLt
theorem lane_ropeCol (n : Fin 64) : lane c d gn k (ropeCol n) = k n := by
  unfold lane
  rw [dif_neg (show ¬ (ropeCol n).val < 512 from by show ¬ 512 + n.val < 512; omega)]
  exact congrArg k (Fin.ext (by show 512 + n.val - 512 = n.val; omega))
end

/-- A column of the weight is a latent or a rotary lane. -/
theorem col_cases (n : Fin 576) : (∃ m, latCol m = n) ∨ ∃ m, ropeCol m = n := by
  by_cases h : n.val < 512
  · exact .inl ⟨⟨n.val, h⟩, rfl⟩
  · exact .inr ⟨⟨n.val - 512, by omega⟩, Fin.ext (by show 512 + (n.val - 512) = n.val; omega)⟩

/-- The program's inputs: activations and their scales, weight and its scales, gain, latent's gradient, rotated key gradient. -/
@[ext]
structure Inputs where
  x : Fin 2048 → Fin 4096 → EReal
  xs : Fin 2048 → Fin 32 → EReal
  w : Fin 4096 → Fin 576 → EReal
  ws : Fin 32 → Fin 5 → EReal
  gn : Fin 512 → EReal
  d : Fin 2048 → Fin 512 → EReal
  k : Fin 2048 → Fin 64 → EReal

namespace Inputs
variable (I : Inputs)

def wt : Fin 4096 → Fin 576 → EReal := weight I.w I.ws
def c (t : Fin 2048) : Fin 512 → EReal := latent (I.x t) (I.xs t) I.wt
/-- The four results. -/
def dx (t : Fin 2048) (n : Fin 4096) : EReal := inputGrad (grad (I.c t) (I.d t) I.gn (I.k t)) I.wt n
def dgain (b : Fin 8) (r : Fin 2) (n : Fin 512) : EReal :=
  ∑ j : Fin 128, dgainTerm (I.c (token b r j)) (I.d (token b r j)) n
def codes (t : Fin 2048) (n : Fin 576) : EReal := code (I.c t) (I.d t) I.gn (I.k t) n
def scales (t : Fin 2048) (b : Fin 5) : EReal := scale (I.c t) (I.d t) I.gn (I.k t) b

/-- A token's batch, and its place in the batch. -/
def batch (t : Fin 2048) : Fin 2 := ⟨t.val / 1024, by omega⟩
def place (t : Fin 2048) : Fin 1024 := ⟨t.val % 1024, by omega⟩

/-- The inputs from the argument arrays: tokens in order over the batches, the key's gradient rotated back. -/
def ofArgs (x : Fin 2 → Fin 1024 → Fin 4096 → EReal) (xs : Fin 2 → Fin 1024 → Fin 32 → EReal) (w : Fin 4096 → Fin 576 → EReal)
    (ws : Fin 32 → Fin 5 → EReal) (gn : Fin 512 → EReal) (pos : Fin 2 → Fin 1024 → BitVec 32) (d : Fin 2 → Fin 1024 → Fin 512 → EReal)
    (k : Fin 2 → Fin 1024 → Fin 64 → EReal) (freq : Fin 32 → EReal) : Inputs where
  x t := x (batch t) (place t)
  xs t := xs (batch t) (place t)
  w := w
  ws := ws
  gn := gn
  d t := d (batch t) (place t)
  k t := rotate (((pos (batch t) (place t)).toInt : ℝ) : EReal) freq (k (batch t) (place t))

end Inputs

end Cert.Spec

end
-- ==== Proof.RefRows.lean ====
/- The reference's values read at an index. -/
module

public import proofs.«01_k».proof.Proof.Whole
public import proofs.«01_k».proof.Proof.Gen.ReferenceIdeal.Skeleton
public import Idealize.ShloMosaic.Lib.Pointwise

@[expose] public section

noncomputable section

namespace Cert.ReferenceIdeal.Rows

open Idealize.ShloMosaic Cert.ReferenceIdeal Cert.ReferenceIdeal.Gen

variable (ws : Vec Ideal S32x5 .f32) (w : Vec Ideal S4096x576 .fp8e4m3) (x : Vec Ideal S2048x4096 .fp8e4m3)
  (xs : Vec Ideal S2048x32 .f32)

theorem weight_lat (k : Fin 4096) (n : Fin 512) :
    k0_pay4 ws w (ix2 k n) = w (ix2 k (Spec.latCol n)) * ws (ix2 (Spec.chan k) (Spec.latBlock (Spec.group n))) := by
  pointwise [k0_pay4, k0_pay3, k0_pay2, Spec.latCol, Spec.chan, Spec.latBlock, Spec.group]

theorem weight_rope (k : Fin 4096) (n : Fin 64) :
    k0_pay5 ws w (ix2 k (Spec.ropeCol n)) = w (ix2 k (Spec.ropeCol n)) * ws (ix2 (Spec.chan k) 4) := by
  pointwise [k0_pay5, k0_pay3, k0_pay2, Spec.ropeCol, Spec.chan]

theorem latent_apply (t : Fin 2048) (n : Fin 512) :
    k0_pay6 ws w x xs (ix2 t n) = ∑ k, x (ix2 t k) * xs (ix2 t (Spec.chan k)) * k0_pay4 ws w (ix2 k n) := by
  pointwise [k0_pay6, Spec.chan]

theorem rstd_apply (t : Fin 2048) :
    k0_pay8 ws w x xs (ix2 t 0) = Spec.rstd (fun n => k0_pay6 ws w x xs (ix2 t n)) := by
  unfold Spec.rstd
  rw [← Spec.div_512]
  pointwise [k0_pay8]; rfl

theorem weight_lat' (k : Fin 4096) (n : Fin 512) : k0_pay5 ws w (ix2 k (Spec.latCol n)) = k0_pay4 ws w (ix2 k n) := by
  pointwise [k0_pay5, Spec.latCol]

theorem dgain_apply (d : Vec Ideal S2048x512 .bf16) (b : Fin 8) (r : Fin 2) (n : Fin 512) :
    k0_pay11 (k0_pay9 ws w x xs d) (k0_pay10 ws w x xs) (ix3 b r n)
      = ∑ j : Fin 128, d (ix2 (Spec.token b r j) n) * k0_pay6 ws w x xs (ix2 (Spec.token b r j) n)
          * k0_pay8 ws w x xs (ix2 (Spec.token b r j) 0) := by
  have e : ∀ j : Fin 128, (⟨b.val * 256 + r.val * 128 + j.val, by omega⟩ : Fin 2048) = Spec.token b r j := fun j =>
    Fin.ext (show b.val * 256 + r.val * 128 + j.val = 256 * b.val + (128 * r.val + j.val) by omega)
  pointwise [k0_pay11, k0_pay9, k0_pay10, k0_pay7]
  simp only [e]

section Row
variable (C D : FVec Ideal S2048x512 .f32) (R : FVec Ideal S2048x1 .f32) (G : Vec Ideal S512 .f32) (K : Vec Ideal S2048x64 .f32)
  (E : Vec Ideal S252 .f32) (t : Fin 2048) (c d gn : Fin 512 → EReal) (k : Fin 64 → EReal)
  (hC : ∀ n, C (ix2 t n) = c n) (hD : ∀ n, D (ix2 t n) = d n) (hR : R (ix2 t 0) = Spec.rstd c) (hG : ∀ n, G (ix1 n) = gn n)
  (hK : ∀ n, K (ix2 t n) = k n)

include hC hD hR hG in
theorem dc_apply (g : Fin 4) (l : Fin 128) : k0_pay13 C D R G (ix3 t g l) = Spec.dc c d gn (Spec.lat g l) := by
  unfold Spec.dc Spec.proj
  rw [← Spec.div_512]
  have e : (⟨g.val * 128 + l.val, by omega⟩ : Fin 512) = Spec.lat g l :=
    Fin.ext (show g.val * 128 + l.val = 128 * g.val + l.val by omega)
  pointwise [k0_pay13, hC, hD, hR, hG]
  rw [e, mul_assoc (c (Spec.lat g l))]

include hC hD hR hG hK in
theorem block_apply (b : Fin 5) : k0_pay14 C D R G K (ix2 t b) = Spec.block c d gn k b := by
  have h := dc_apply C D R G t c d gn hC hD hR hG
  unfold Spec.block Spec.largest Spec.invTop
  pointwise [k0_pay14, k0_pay12, h, hK]
  rw [Spec.ofBits_negInf]
  by_cases hb : b.val < 4
  · rw [dif_pos hb, dif_pos hb]; rfl
  · rw [dif_neg hb, dif_neg hb]; rfl

end Row

theorem exp_apply (A : FVec Ideal S2048x5 .f32) (M : IVec S2048x5x252 1) (E : Vec Ideal S252 .f32) (t : Fin 2048) (b : Fin 5) (a : EReal)
    (ha : A (ix2 t b) = a) (hM : ∀ e, M (ix3 t b e) = BitVec.ofBool (decide (Spec.pow2 ((e.val : ℤ) - 126) ≤ a)))
    (hE : ∀ e, E (ix1 e) = ((((e.val : ℤ) - 125 : ℤ) : ℝ) : EReal)) :
    k0_pay18 A M (Scalar.ofBits .f32 0xC2FA0000#32) (k0_pay17 E) (ix2 t b) = (((Spec.expOf a : ℤ) : ℝ) : EReal) := by
  pointwise [k0_pay18, k0_pay17, k0_pay15, ha, hM, hE]
  rw [Spec.ofBits_tiny, Spec.ofBits_negInf, Spec.ofBits_lowest, Spec.fold_max_steps a _ (fun _ => rfl)]
  unfold Spec.expOf
  by_cases h : Spec.steps a = 0
  · rw [if_pos ((Spec.lt_tiny_iff a).2 h), if_pos h]; simp
  · rw [if_neg (fun q => h ((Spec.lt_tiny_iff a).1 q)), if_neg h, if_neg h]

theorem mask_apply (C D : FVec Ideal S2048x512 .f32) (R : FVec Ideal S2048x1 .f32) (G : Vec Ideal S512 .f32)
    (K : Vec Ideal S2048x64 .f32) (E : Vec Ideal S252 .f32) (t : Fin 2048) (b : Fin 5) (e : Fin 252)
    (hE : ∀ e, E (ix1 e) = ((((e.val : ℤ) - 125 : ℤ) : ℝ) : EReal)) :
    k0_pay16 C D R G K E (ix3 t b e)
      = BitVec.ofBool (decide (Spec.pow2 ((e.val : ℤ) - 126) ≤ k0_pay14 C D R G K (ix2 t b))) := by
  have h1 : Ideal.exp2 (((((e.val : ℤ) - 125 : ℤ) : ℝ) : EReal) - 1) = Spec.pow2 ((e.val : ℤ) - 126) := by
    rw [show (1 : EReal) = (((1 : ℤ) : ℝ) : EReal) by simp, ← EReal.coe_sub, ← Int.cast_sub, Spec.exp2_int]
    exact congrArg Spec.pow2 (by omega)
  pointwise [k0_pay16, k0_pay15, hE]
  rw [← h1]
  rfl

section Quant
variable (A : FVec Ideal S2048x5 .f32) (M : IVec S2048x5x252 1) (B : FVec Ideal S2048x5x252 .f32) (z : Ideal .f32)
  (DC : FVec Ideal S2048x4x128 .f32) (K : FVec Ideal S2048x64 .f32)
  (t : Fin 2048) (c d gn : Fin 512 → EReal) (k : Fin 64 → EReal)
  (hE : ∀ b, k0_pay18 A M z B (ix2 t b) = (((Spec.expOf (Spec.block c d gn k b) : ℤ) : ℝ) : EReal))
  (hDC : ∀ g l, DC (ix3 t g l) = Spec.dc c d gn (Spec.lat g l)) (hK : ∀ n, K (ix2 t n) = k n)

include hE in
theorem scale_apply (b : Fin 5) : k0_pay19 A M z B (ix2 t b) = Spec.scale c d gn k b := by
  have h := Spec.exp2_expOf (Spec.block c d gn k b)
  rw [← hE b] at h
  exact h

include hE in
theorem inv_apply (b : Fin 5) : k0_pay20 A M z B (ix2 t b) = Spec.invOf (Spec.block c d gn k b) := by
  have h := Spec.exp2_neg_expOf (Spec.block c d gn k b)
  rw [← hE b] at h
  rw [← h]
  pointwise [k0_pay20]
  rfl

include hE hDC in
theorem code_lat (n : Fin 512) : k0_pay21 DC A M z B (ix2 t n) = Spec.code c d gn k (Spec.latCol n) := by
  have h := inv_apply A M B z t c d gn k hE
  unfold Spec.code
  rw [Spec.lane_latCol]
  have e := Spec.lat_group n
  unfold Spec.group Spec.within at e
  pointwise [k0_pay21, h, hDC]
  rw [e]
  rfl

include hE hK in
theorem code_rope (n : Fin 64) : k0_pay22 K A M z B (ix2 t n) = Spec.code c d gn k (Spec.ropeCol n) := by
  have h := inv_apply A M B z t c d gn k hE
  unfold Spec.code
  rw [Spec.lane_ropeCol]
  pointwise [k0_pay22, h, hK]
  rw [Spec.blockOf_ropeCol]
  rfl

include hE hDC hK in
theorem code_apply (n : Fin 576) : k0_pay23 K DC A M z B (ix2 t n) = Spec.code c d gn k n := by
  obtain ⟨m, rfl⟩ | ⟨m, rfl⟩ := Spec.col_cases n
  · rw [← code_lat A M B z DC t c d gn k hE hDC]
    pointwise [k0_pay23, Spec.latCol]
  · rw [← code_rope A M B z K t c d gn k hE hK]
    pointwise [k0_pay23, Spec.ropeCol]

include hE hDC hK in
theorem grad_apply (n : Fin 576) : k0_pay24 K DC A M z B (ix2 t n) = Spec.grad c d gn k n := by
  have h := scale_apply A M B z t c d gn k hE
  have hl := code_lat A M B z DC t c d gn k hE hDC
  have hr := code_rope A M B z K t c d gn k hE hK
  unfold Spec.grad
  obtain ⟨m, rfl⟩ | ⟨m, rfl⟩ := Spec.col_cases n
  · rw [← hl, Spec.blockOf_latCol, ← h]
    pointwise [k0_pay24, Spec.latCol, Spec.latBlock, Spec.group]
  · rw [← hr, Spec.blockOf_ropeCol, ← h]
    pointwise [k0_pay24, Spec.ropeCol]

end Quant

theorem dx_apply (W : FVec Ideal S4096x576 .bf16) (G : FVec Ideal S2048x576 .bf16) (t : Fin 2048) (k : Fin 4096) :
    k0_pay1 W G (constant S2048x4096 .f32 0x00000000#32) (ix2 t k) = ∑ n : Fin 576, G (ix2 t n) * W (ix2 k n) := by
  pointwise [k0_pay1]

end Cert.ReferenceIdeal.Rows

end
-- ==== Proof.RefOut.lean ====
/- What the reference's call writes, in the terms of Whole.lean. -/
module

public import proofs.«01_k».proof.Proof.RefRows
public import proofs.«01_k».proof.Proof.Gen.ReferenceIdeal.Frame

@[expose] public section

noncomputable section

namespace Cert.ReferenceIdeal.Rows

open Idealize.ShloMosaic Cert.ReferenceIdeal Cert.ReferenceIdeal.Gen

theorem origin1 : (![0] : Fin 1 → Nat) = fun _ => 0 := by decide
theorem origin2 : (![0, 0] : Fin 2 → Nat) = fun _ => 0 := by decide
theorem origin3 : (![0, 0, 0] : Fin 3 → Nat) = fun _ => 0 := by decide

/-- Each load of the call reads a whole operand. -/
theorem load0 (v : Vec Ideal S32x5 .f32) : View.ld v r0_0 = v := View.ld_unit_zero origin2 _ v
theorem load1 (v : Vec Ideal S4096x576 .fp8e4m3) : View.ld v r0_1 = v := View.ld_unit_zero origin2 _ v
theorem load2 (v : Vec Ideal S2048x4096 .fp8e4m3) : View.ld v r0_2 = v := View.ld_unit_zero origin2 _ v
theorem load3 (v : Vec Ideal S2048x32 .f32) : View.ld v r0_3 = v := View.ld_unit_zero origin2 _ v
theorem load4 (v : Vec Ideal S2048x512 .bf16) : View.ld v r0_4 = v := View.ld_unit_zero origin2 _ v
theorem load6 (v : Vec Ideal S512 .f32) : View.ld v r0_6 = v := View.ld_unit_zero origin1 _ v
theorem load7 (v : Vec Ideal S2048x64 .f32) : View.ld v r0_7 = v := View.ld_unit_zero origin2 _ v
theorem load8 (v : Vec Ideal S252 .f32) : View.ld v r0_8 = v := View.ld_unit_zero origin1 _ v

variable (x0 : Vec Ideal S2048x4096 .fp8e4m3) (x1 : Vec Ideal S2048x32 .f32) (x2 : Vec Ideal S4096x576 .fp8e4m3)
  (x3 : Vec Ideal S32x5 .f32) (x4 : Vec Ideal S512 .f32) (x5 : Vec Ideal S2048x512 .bf16) (x6 : Vec Ideal S2048x64 .f32)
  (x7 : Vec Ideal S252 .f32)

/-- The inputs as the call reads them. -/
def inputs : Spec.Inputs where
  x t k := x0 (ix2 t k)
  xs t k := x1 (ix2 t k)
  w k n := x2 (ix2 k n)
  ws k n := x3 (ix2 k n)
  gn n := x4 (ix1 n)
  d t n := x5 (ix2 t n)
  k t n := x6 (ix2 t n)

theorem weight_eq (k : Fin 4096) (n : Fin 576) : k0_pay5 x3 x2 (ix2 k n) = (inputs x0 x1 x2 x3 x4 x5 x6).wt k n := by
  obtain ⟨m, rfl⟩ | ⟨m, rfl⟩ := Spec.col_cases n
  · rw [weight_lat', weight_lat]; rfl
  · rw [weight_rope, ← Spec.blockOf_ropeCol m]; rfl

theorem latent_eq (t : Fin 2048) (n : Fin 512) : k0_pay6 x3 x2 x0 x1 (ix2 t n) = (inputs x0 x1 x2 x3 x4 x5 x6).c t n := by
  rw [latent_apply]
  unfold Spec.Inputs.c Spec.latent
  refine Finset.sum_congr rfl fun (k : Fin 4096) _ => ?_
  rw [← weight_lat', weight_eq x0 x1 x2 x3 x4 x5 x6]
  rfl

theorem rstd_eq (t : Fin 2048) : k0_pay8 x3 x2 x0 x1 (ix2 t 0) = Spec.rstd ((inputs x0 x1 x2 x3 x4 x5 x6).c t) := by
  rw [rstd_apply]
  exact congrArg Spec.rstd (funext fun n => latent_eq x0 x1 x2 x3 x4 x5 x6 t n)

theorem d_eq (t : Fin 2048) (n : Fin 512) : k0_pay7 x5 (ix2 t n) = (inputs x0 x1 x2 x3 x4 x5 x6).d t n := by
  pointwise [k0_pay7]; rfl
theorem k_eq (t : Fin 2048) (n : Fin 64) : k0_pay12 x6 (ix2 t n) = (inputs x0 x1 x2 x3 x4 x5 x6).k t n := by
  pointwise [k0_pay12]; rfl

theorem dgain_eq (b : Fin 8) (r : Fin 2) (n : Fin 512) : out0_9 x0 x1 x2 x3 x4 x5 x6 x7 (ix3 b r n) = (inputs x0 x1 x2 x3 x4 x5 x6).dgain b r n := by
  unfold out0_9
  rw [View.canon_unit_zero origin3]
  simp only [load0, load1, load2, load3, load4, load6, load7, load8]
  rw [dgain_apply]
  refine Finset.sum_congr rfl fun j _ => ?_
  rw [latent_eq x0 x1 x2 x3 x4 x5 x6, rstd_eq x0 x1 x2 x3 x4 x5 x6]
  rfl

variable (hE : ∀ e : Fin 252, x7 (ix1 e) = ((((e.val : ℤ) - 125 : ℤ) : ℝ) : EReal))

theorem dc_eq (t : Fin 2048) (g : Fin 4) (l : Fin 128) : k0_pay29 x0 x1 x2 x3 x4 x5 x6 x7 (ix3 t g l)
    = Spec.dc ((inputs x0 x1 x2 x3 x4 x5 x6).c t) ((inputs x0 x1 x2 x3 x4 x5 x6).d t) (inputs x0 x1 x2 x3 x4 x5 x6).gn (Spec.lat g l) := by
  unfold k0_pay29 k0_pay25 k0_pay26 k0_pay27
  simp only [load0, load1, load2, load3, load4, load6, load7, load8]
  exact dc_apply _ _ _ _ t _ _ _ (latent_eq x0 x1 x2 x3 x4 x5 x6 t) (d_eq x0 x1 x2 x3 x4 x5 x6 t) (rstd_eq x0 x1 x2 x3 x4 x5 x6 t) (fun _ => rfl) g l

theorem key_eq (t : Fin 2048) (n : Fin 64) : k0_pay28 x0 x1 x2 x3 x4 x5 x6 x7 (ix2 t n) = (inputs x0 x1 x2 x3 x4 x5 x6).k t n := by
  unfold k0_pay28
  simp only [load0, load1, load2, load3, load4, load6, load7, load8]
  exact k_eq x0 x1 x2 x3 x4 x5 x6 t n

theorem block_eq (t : Fin 2048) (b : Fin 5) : k0_pay30 x0 x1 x2 x3 x4 x5 x6 x7 (ix2 t b)
    = Spec.block ((inputs x0 x1 x2 x3 x4 x5 x6).c t) ((inputs x0 x1 x2 x3 x4 x5 x6).d t) (inputs x0 x1 x2 x3 x4 x5 x6).gn ((inputs x0 x1 x2 x3 x4 x5 x6).k t) b := by
  unfold k0_pay30 k0_pay25 k0_pay26 k0_pay27
  simp only [load0, load1, load2, load3, load4, load6, load7, load8]
  exact block_apply _ _ _ _ _ t _ _ _ _ (latent_eq x0 x1 x2 x3 x4 x5 x6 t) (d_eq x0 x1 x2 x3 x4 x5 x6 t) (rstd_eq x0 x1 x2 x3 x4 x5 x6 t)
    (fun _ => rfl) (fun _ => rfl) b

include hE in
theorem exp_eq (t : Fin 2048) (b : Fin 5) :
    k0_pay18 (k0_pay30 x0 x1 x2 x3 x4 x5 x6 x7) (k0_pay31 x0 x1 x2 x3 x4 x5 x6 x7) (Scalar.ofBits .f32 0xC2FA0000#32)
      (k0_pay32 x0 x1 x2 x3 x4 x5 x6 x7) (ix2 t b)
      = (((Spec.expOf (Spec.block ((inputs x0 x1 x2 x3 x4 x5 x6).c t) ((inputs x0 x1 x2 x3 x4 x5 x6).d t) (inputs x0 x1 x2 x3 x4 x5 x6).gn ((inputs x0 x1 x2 x3 x4 x5 x6).k t) b) : ℤ) : ℝ) : EReal) := by
  have hb := block_eq x0 x1 x2 x3 x4 x5 x6 x7 t b
  have hM : ∀ e, k0_pay31 x0 x1 x2 x3 x4 x5 x6 x7 (ix3 t b e)
      = BitVec.ofBool (decide (Spec.pow2 ((e.val : ℤ) - 126) ≤ Spec.block ((inputs x0 x1 x2 x3 x4 x5 x6).c t) ((inputs x0 x1 x2 x3 x4 x5 x6).d t) (inputs x0 x1 x2 x3 x4 x5 x6).gn ((inputs x0 x1 x2 x3 x4 x5 x6).k t) b)) := fun e => by
    rw [← hb]
    unfold k0_pay31 k0_pay30
    simp only [load0, load1, load2, load3, load4, load6, load7, load8]
    exact mask_apply _ _ _ _ _ x7 t b e hE
  unfold k0_pay32
  simp only [load0, load1, load2, load3, load4, load6, load7, load8]
  exact exp_apply _ _ x7 t b _ hb hM hE

include hE in
theorem scales_eq (t : Fin 2048) (b : Fin 5) : out0_11 x0 x1 x2 x3 x4 x5 x6 x7 (ix2 t b) = (inputs x0 x1 x2 x3 x4 x5 x6).scales t b := by
  unfold out0_11
  rw [View.canon_unit_zero origin2]
  exact scale_apply _ _ _ _ t _ _ _ _ (exp_eq x0 x1 x2 x3 x4 x5 x6 x7 hE t) b

include hE in
theorem codes_eq (t : Fin 2048) (n : Fin 576) : out0_10 x0 x1 x2 x3 x4 x5 x6 x7 (ix2 t n) = (inputs x0 x1 x2 x3 x4 x5 x6).codes t n := by
  unfold out0_10
  rw [View.canon_unit_zero origin2]
  exact code_apply _ _ _ _ _ _ t _ _ _ _ (exp_eq x0 x1 x2 x3 x4 x5 x6 x7 hE t) (dc_eq x0 x1 x2 x3 x4 x5 x6 x7 t)
    (key_eq x0 x1 x2 x3 x4 x5 x6 x7 t) n

include hE in
theorem dx_eq (t : Fin 2048) (k : Fin 4096) : out0_8 x0 x1 x2 x3 x4 x5 x6 x7 (ix2 t k) = (inputs x0 x1 x2 x3 x4 x5 x6).dx t k := by
  unfold out0_8
  rw [View.canon_unit_zero origin2]
  rw [dx_apply]
  unfold Spec.Inputs.dx Spec.inputGrad
  refine Finset.sum_congr rfl fun (n : Fin 576) _ => ?_
  simp only [load0, load1, load2, load3, load4, load6, load7, load8]
  rw [weight_eq x0 x1 x2 x3 x4 x5 x6]
  exact congrArg (· * (inputs x0 x1 x2 x3 x4 x5 x6).wt k n) (grad_apply _ _ _ _ _ _ t _ _ _ _ (exp_eq x0 x1 x2 x3 x4 x5 x6 x7 hE t)
    (dc_eq x0 x1 x2 x3 x4 x5 x6 x7 t) (key_eq x0 x1 x2 x3 x4 x5 x6 x7 t) n)

end Cert.ReferenceIdeal.Rows

end
-- ==== Proof.RefHost.lean ====
/- What the reference's call is given: the host's reshapes, the rotated key gradient, the exponents. -/
module

public import proofs.«01_k».proof.Proof.RefOut
public import proofs.«01_k».proof.Proof.Gen.ReferenceIdeal.Value

@[expose] public section

noncomputable section

namespace Cert.ReferenceIdeal.Rows

open Idealize.ShloMosaic Idealize.ShloMosaic.TcCoe Cert.ReferenceIdeal Cert.ReferenceIdeal.Gen

variable (m : (ℓ : Loc nD τ sig) → Buf (Elt Ideal) ℓ) (c : Dev nD)

/-- The frequencies. -/
def freq (l : Fin 32) : EReal := Ideal.ofBits .f32 (lit0 l)

/-- The argument arrays. -/
abbrev argX : Vec Ideal S2x1024x4096 .fp8e4m3 := m ((c : Thread nD τ).loc main_arg0)
abbrev argXs : Vec Ideal S2x1024x32 .f32 := m ((c : Thread nD τ).loc main_arg1)
abbrev argW : Vec Ideal S4096x576 .fp8e4m3 := m ((c : Thread nD τ).loc main_arg2)
abbrev argWs : Vec Ideal S32x5 .f32 := m ((c : Thread nD τ).loc main_arg3)
abbrev argG : Vec Ideal S512 .f32 := m ((c : Thread nD τ).loc main_arg4)
abbrev argP : Vec Ideal S2x1024 .i32 := m ((c : Thread nD τ).loc main_arg5)
abbrev argD : Vec Ideal S2x1024x512 .bf16 := m ((c : Thread nD τ).loc main_arg6)
abbrev argK : Vec Ideal S2x1024x64 .bf16 := m ((c : Thread nD τ).loc main_arg7)

/-- The members of the rotated pairs, of the positions and of the key gradient; the pairs as rows of 64 lanes. -/
def angle (P : Vec Ideal S2x1024 .i32) : FVec Ideal S2x1024x32 .f32 :=
  mulf (broadcastInDim S2x1024x32 ![0, 1, 2] bcast_S2x1024x1_S2x1024x32_0_1_2
      (broadcastInDim S2x1024x1 ![0, 1] bcast_S2x1024_S2x1024x1_0_1 (sitofp .f32 P)))
    (broadcastInDim S2x1024x32 ![0, 1, 2] bcast_S1x1x32_S2x1024x32_0_1_2
      (broadcastInDim S1x1x32 ![2] bcast_S32_S1x1x32_2 (fun i => FloatOps.ofBits .f32 (lit0 (S32.rowMajor i)))))
def split (K : Vec Ideal S2x1024x64 .bf16) : FVec Ideal S2x1024x32x2 .f32 :=
  shapeCast S2x1024x32x2 (extf .f32 K bitsLt_bf16_f32) shapeCasts_S2x1024x64_S2x1024x32x2
def first (K : Vec Ideal S2x1024x64 .bf16) : FVec Ideal S2x1024x32 .f32 :=
  shapeCast S2x1024x32 (extractStridedSlice S2x1024x32x1 ![0, 0, 0, 0] (split K) slices_S2x1024x32x2_S2x1024x32x1_0_0_0_0)
    shapeCasts_S2x1024x32x1_S2x1024x32
def second (K : Vec Ideal S2x1024x64 .bf16) : FVec Ideal S2x1024x32 .f32 :=
  shapeCast S2x1024x32 (extractStridedSlice S2x1024x32x1 ![0, 0, 0, 1] (split K) slices_S2x1024x32x2_S2x1024x32x1_0_0_0_1)
    shapeCasts_S2x1024x32x1_S2x1024x32
def turnedFirst (P : Vec Ideal S2x1024 .i32) (K : Vec Ideal S2x1024x64 .bf16) : FVec Ideal S2x1024x32 .f32 :=
  addf (mulf (first K) (Host.cos (angle P))) (mulf (second K) (Host.sin (angle P)))
def turnedSecond (P : Vec Ideal S2x1024 .i32) (K : Vec Ideal S2x1024x64 .bf16) : FVec Ideal S2x1024x32 .f32 :=
  addf (mulf (Host.negf (first K)) (Host.sin (angle P))) (mulf (second K) (Host.cos (angle P)))
def rows (A B : FVec Ideal S2x1024x32 .f32) : FVec Ideal S2048x64 .f32 :=
  shapeCast S2048x64 (shapeCast S2x1024x64 (concatenate S2x1024x32x2 3
    [⟨S2x1024x32x1, broadcastInDim S2x1024x32x1 ![0, 1, 2] bcast_S2x1024x32_S2x1024x32x1_0_1_2 A⟩,
      ⟨S2x1024x32x1, broadcastInDim S2x1024x32x1 ![0, 1, 2] bcast_S2x1024x32_S2x1024x32x1_0_1_2 B⟩]
    concatenates_S2x1024x32x1_S2x1024x32x1_S2x1024x32x2_d3) shapeCasts_S2x1024x32x2_S2x1024x64) shapeCasts_S2x1024x64_S2048x64

/-- The host's operations up to the rotated pairs. -/
abbrev early : Valuation τ sig (Elt Ideal) := StableHlo.after (List.take 22 hostOps0) (fun b => m (c, b))

theorem early_first : early m c (Proc.devRef .tc main_v16) = turnedFirst (argP m c) (argK m c) := by
  simp only [early, hostOps0, List.flatten_cons, List.flatten_nil, List.append_nil, List.cons_append, List.nil_append,
    List.take_succ_cons, List.take_zero]
  after_results_simp
  rfl
theorem early_second : early m c (Proc.devRef .tc main_v20) = turnedSecond (argP m c) (argK m c) := by
  simp only [early, hostOps0, List.flatten_cons, List.flatten_nil, List.append_nil, List.cons_append, List.nil_append,
    List.take_succ_cons, List.take_zero]
  after_results_simp
  rfl
theorem key_value : (V m c main_v32 : Vec Ideal S2048x64 .f32)
    = rows (turnedFirst (argP m c) (argK m c)) (turnedSecond (argP m c) (argK m c)) := by
  rw [← early_first, ← early_second, V, ← List.take_append_drop 22 hostOps0, StableHlo.after_append]
  unfold early
  generalize StableHlo.after (List.take 22 hostOps0) (fun b => m (c, b)) = W
  simp only [hostOps0, List.flatten_cons, List.flatten_nil, List.append_nil, List.cons_append, List.nil_append,
    List.drop_succ_cons, List.drop_zero]
  after_results
  rfl

theorem atX (t : Fin 2048) (n : Fin 4096) : (V m c main_v29 : Vec Ideal S2048x4096 .fp8e4m3) (ix2 t n)
    = argX m c (ix3 (Spec.Inputs.batch t) (Spec.Inputs.place t) n) := by
  simp only [V, hostOps0, List.flatten_cons, List.flatten_nil, List.append_nil, List.cons_append, List.nil_append]
  after_results_simp
  pointwise []
  rfl
theorem atXs (t : Fin 2048) (n : Fin 32) : (V m c main_v30 : Vec Ideal S2048x32 .f32) (ix2 t n)
    = argXs m c (ix3 (Spec.Inputs.batch t) (Spec.Inputs.place t) n) := by
  simp only [V, hostOps0, List.flatten_cons, List.flatten_nil, List.append_nil, List.cons_append, List.nil_append]
  after_results_simp
  pointwise []
  rfl
theorem atD (t : Fin 2048) (n : Fin 512) : (V m c main_v31 : Vec Ideal S2048x512 .bf16) (ix2 t n)
    = argD m c (ix3 (Spec.Inputs.batch t) (Spec.Inputs.place t) n) := by
  simp only [V, hostOps0, List.flatten_cons, List.flatten_nil, List.append_nil, List.cons_append, List.nil_append]
  after_results_simp
  pointwise []
  rfl

theorem exponent (e : Fin 252) :
    FloatOps.sitofp (F := Ideal) FTy.f32 (IntOp.addi (4294967171#32) (BitVec.ofNat 32 e.val)) = ((((e.val : ℤ) - 125 : ℤ) : ℝ) : EReal) := by
  have h : ∀ e : Fin 252, (IntOp.addi (4294967171#32) (BitVec.ofNat 32 e.val)).toInt = (e.val : ℤ) - 125 := by decide +kernel
  exact congrArg (fun z : ℤ => ((z : ℝ) : EReal)) (h e)
theorem atE (e : Fin 252) : (V m c main_v28 : Vec Ideal S252 .f32) (ix1 e) = ((((e.val : ℤ) - 125 : ℤ) : ℝ) : EReal) := by
  simp only [V, hostOps0, List.flatten_cons, List.flatten_nil, List.append_nil, List.cons_append, List.nil_append]
  after_results_simp
  pointwise []
  exact exponent e

theorem angle_apply (P : Vec Ideal S2x1024 .i32) (b : Fin 2) (s : Fin 1024) (i : Fin 32) :
    angle P (ix3 b s i) = (((P (ix2 b s)).toInt : ℝ) : EReal) * freq i := by
  pointwise [angle]
  exact congrArg (fun j => (((P (ix2 b s)).toInt : ℝ) : EReal) * Ideal.ofBits .f32 (lit0 j)) (Fin.ext (rowMajor_val1 (ix1 i)))
/-- The pair of a lane, and the lanes of a pair. -/
def half (l : Fin 64) : Fin 32 := ⟨l.val / 2, by omega⟩
def even (i : Fin 32) : Fin 64 := ⟨i.val * 2, by omega⟩
def odd (i : Fin 32) : Fin 64 := ⟨i.val * 2 + 1, by omega⟩
theorem first_apply (K : Vec Ideal S2x1024x64 .bf16) (b : Fin 2) (s : Fin 1024) (i : Fin 32) :
    first K (ix3 b s i) = K (ix3 b s (even i)) := by
  pointwise [first, split, even]
theorem second_apply (K : Vec Ideal S2x1024x64 .bf16) (b : Fin 2) (s : Fin 1024) (i : Fin 32) :
    second K (ix3 b s i) = K (ix3 b s (odd i)) := by
  pointwise [second, split, odd]
theorem rows_apply (A B : FVec Ideal S2x1024x32 .f32) (t : Fin 2048) (l : Fin 64) :
    rows A B (ix2 t l) = if l.val % 2 = 0 then A (ix3 (Spec.Inputs.batch t) (Spec.Inputs.place t) (half l))
      else B (ix3 (Spec.Inputs.batch t) (Spec.Inputs.place t) (half l)) := by
  pointwise [rows]
  by_cases h : l.val % 2 = 0
  · rw [dif_pos (by omega), if_pos h]; rfl
  · rw [dif_neg (by omega), if_neg h]; rfl

theorem atK (t : Fin 2048) (l : Fin 64) : (V m c main_v32 : Vec Ideal S2048x64 .f32) (ix2 t l)
    = Spec.rotate ((((argP m c (ix2 (Spec.Inputs.batch t) (Spec.Inputs.place t))).toInt : ℝ)) : EReal) freq
        (fun l => argK m c (ix3 (Spec.Inputs.batch t) (Spec.Inputs.place t) l)) l := by
  rw [key_value, rows_apply]
  unfold Spec.rotate turnedFirst turnedSecond
  by_cases h : l.val % 2 = 0
  · rw [if_pos h, dif_pos h]
    pointwise [first_apply, second_apply, angle_apply]
    rw [show even (half l) = l from Fin.ext (show l.val / 2 * 2 = l.val by omega),
      show odd (half l) = ⟨l.val + 1, by omega⟩ from Fin.ext (show l.val / 2 * 2 + 1 = l.val + 1 by omega)]
    rfl
  · rw [if_neg h, dif_neg h]
    pointwise [first_apply, second_apply, angle_apply]
    rw [show even (half l) = ⟨l.val - 1, by omega⟩ from Fin.ext (show l.val / 2 * 2 = l.val - 1 by omega),
      show odd (half l) = l from Fin.ext (show l.val / 2 * 2 + 1 = l.val by omega), add_comm,
      neg_mul, ← mul_neg, zero_sub]
    rfl

/-- The inputs, from the argument arrays. -/
def args : Spec.Inputs :=
  .ofArgs (fun b s k => argX m c (ix3 b s k)) (fun b s k => argXs m c (ix3 b s k)) (fun k n => argW m c (ix2 k n))
    (fun k n => argWs m c (ix2 k n)) (fun n => argG m c (ix1 n)) (fun b s => argP m c (ix2 b s))
    (fun b s n => argD m c (ix3 b s n)) (fun b s n => argK m c (ix3 b s n)) freq

/-- The call's inputs are those. -/
theorem inputs_eq : inputs (V m c main_v29) (V m c main_v30) (V m c main_arg2) (V m c main_arg3) (V m c main_arg4) (V m c main_v31)
    (V m c main_v32) = args m c := by
  refine Spec.Inputs.ext ?_ ?_ ?_ ?_ ?_ ?_ ?_
  · exact funext fun t => funext fun k => atX m c t k
  · exact funext fun t => funext fun k => atXs m c t k
  · exact funext fun k => funext fun n => congrFun (V_main_arg2 m c) (ix2 k n)
  · exact funext fun k => funext fun n => congrFun (V_main_arg3 m c) (ix2 k n)
  · exact funext fun n => congrFun (V_main_arg4 m c) (ix1 n)
  · exact funext fun t => funext fun n => atD m c t n
  · exact funext fun t => funext fun n => atK m c t n

end Cert.ReferenceIdeal.Rows

end
-- ==== Proof.RefArrays.lean ====
/- The reference's four result arrays, from the argument arrays. -/
module

public import proofs.«01_k».proof.Proof.RefHost
public import Idealize.ShloMosaic.Lib.Pipeline.ValueKit

@[expose] public section

noncomputable section

namespace Cert.ReferenceIdeal.Rows

open Idealize.ShloMosaic Idealize.ShloMosaic.TcCoe Cert.ReferenceIdeal Cert.ReferenceIdeal.Gen

variable (m : (ℓ : Loc nD τ sig) → Buf (Elt Ideal) ℓ) (c : Dev nD)

/-- Each window's only block is block 0. -/
theorem index0 : ∀ (t : Fin cfg0.N) a, win0_0.index t a = 0 := (by decide +kernel : ∀ (t : Fin grid0.N) a, win0_0.index t a = 0)
theorem index1 : ∀ (t : Fin cfg0.N) a, win0_1.index t a = 0 := (by decide +kernel : ∀ (t : Fin grid0.N) a, win0_1.index t a = 0)
theorem index2 : ∀ (t : Fin cfg0.N) a, win0_2.index t a = 0 := (by decide +kernel : ∀ (t : Fin grid0.N) a, win0_2.index t a = 0)
theorem index3 : ∀ (t : Fin cfg0.N) a, win0_3.index t a = 0 := (by decide +kernel : ∀ (t : Fin grid0.N) a, win0_3.index t a = 0)
theorem index4 : ∀ (t : Fin cfg0.N) a, win0_4.index t a = 0 := (by decide +kernel : ∀ (t : Fin grid0.N) a, win0_4.index t a = 0)
theorem index5 : ∀ (t : Fin cfg0.N) a, win0_5.index t a = 0 := (by decide +kernel : ∀ (t : Fin grid0.N) a, win0_5.index t a = 0)
theorem index6 : ∀ (t : Fin cfg0.N) a, win0_6.index t a = 0 := (by decide +kernel : ∀ (t : Fin grid0.N) a, win0_6.index t a = 0)
theorem index7 : ∀ (t : Fin cfg0.N) a, win0_7.index t a = 0 := (by decide +kernel : ∀ (t : Fin grid0.N) a, win0_7.index t a = 0)
theorem index8 : ∀ (t : Fin cfg0.N) a, win0_8.index t a = 0 := (by decide +kernel : ∀ (t : Fin grid0.N) a, win0_8.index t a = 0)
theorem index9 : ∀ (t : Fin cfg0.N) a, win0_9.index t a = 0 := (by decide +kernel : ∀ (t : Fin grid0.N) a, win0_9.index t a = 0)
theorem index10 : ∀ (t : Fin cfg0.N) a, win0_10.index t a = 0 := (by decide +kernel : ∀ (t : Fin grid0.N) a, win0_10.index t a = 0)
theorem index11 : ∀ (t : Fin cfg0.N) a, win0_11.index t a = 0 := (by decide +kernel : ∀ (t : Fin grid0.N) a, win0_11.index t a = 0)

/-- So each operand's block is the whole operand. -/
theorem operand0 (t : Fin cfg0.N) : iblk m c 0 t = V m c main_v29 := by
  funext y
  blk_simp [iblk]
  exact congrArg (V m c main_v29) (by blk_ext [index0])
theorem operand1 (t : Fin cfg0.N) : iblk m c 1 t = V m c main_v30 := by
  funext y
  blk_simp [iblk]
  exact congrArg (V m c main_v30) (by blk_ext [index1])
theorem operand2 (t : Fin cfg0.N) : iblk m c 2 t = V m c main_arg2 := by
  funext y
  blk_simp [iblk]
  exact congrArg (V m c main_arg2) (by blk_ext [index2])
theorem operand3 (t : Fin cfg0.N) : iblk m c 3 t = V m c main_arg3 := by
  funext y
  blk_simp [iblk]
  exact congrArg (V m c main_arg3) (by blk_ext [index3])
theorem operand4 (t : Fin cfg0.N) : iblk m c 4 t = V m c main_arg4 := by
  funext y
  blk_simp [iblk]
  exact congrArg (V m c main_arg4) (by blk_ext [index4])
theorem operand5 (t : Fin cfg0.N) : iblk m c 5 t = V m c main_v31 := by
  funext y
  blk_simp [iblk]
  exact congrArg (V m c main_v31) (by blk_ext [index5])
theorem operand6 (t : Fin cfg0.N) : iblk m c 6 t = V m c main_v32 := by
  funext y
  blk_simp [iblk]
  exact congrArg (V m c main_v32) (by blk_ext [index6])
theorem operand7 (t : Fin cfg0.N) : iblk m c 7 t = V m c main_v28 := by
  funext y
  blk_simp [iblk]
  exact congrArg (V m c main_v28) (by blk_ext [index7])

/-- The results at an index. -/
theorem dx_array : ((dats m 0 c).arrAt 8 cfg0.N : Vec Ideal S2048x4096 .bf16) = fun i => (args m c).dx (i 0) (i 1) := by
  refine (dats m 0 c).arrAt_eq_of_covers 8 _ (by decide +kernel) fun t hf y => ?_
  blk_simp
  rw [after0_8, operand0, operand1, operand2, operand3, operand4, operand5, operand6, operand7]
  refine (congrArg _ (eq_ix2 y)).trans ((dx_eq _ _ _ _ _ _ _ _ (atE m c) (y 0) (y 1)).trans ?_)
  rw [inputs_eq]
  exact congrArg₂ (args m c).dx (Fin.ext (by blk_simp [index8])) (Fin.ext (by blk_simp [index8]))
theorem codes_array : ((dats m 0 c).arrAt 10 cfg0.N : Vec Ideal S2048x576 .fp8e5m2) = fun i => (args m c).codes (i 0) (i 1) := by
  refine (dats m 0 c).arrAt_eq_of_covers 10 _ (by decide +kernel) fun t hf y => ?_
  blk_simp
  rw [after0_10, operand0, operand1, operand2, operand3, operand4, operand5, operand6, operand7]
  refine (congrArg _ (eq_ix2 y)).trans ((codes_eq _ _ _ _ _ _ _ _ (atE m c) (y 0) (y 1)).trans ?_)
  rw [inputs_eq]
  exact congrArg₂ (args m c).codes (Fin.ext (by blk_simp [index10])) (Fin.ext (by blk_simp [index10]))
theorem scales_array : ((dats m 0 c).arrAt 11 cfg0.N : Vec Ideal S2048x5 .f32) = fun i => (args m c).scales (i 0) (i 1) := by
  refine (dats m 0 c).arrAt_eq_of_covers 11 _ (by decide +kernel) fun t hf y => ?_
  blk_simp
  rw [after0_11, operand0, operand1, operand2, operand3, operand4, operand5, operand6, operand7]
  refine (congrArg _ (eq_ix2 y)).trans ((scales_eq _ _ _ _ _ _ _ _ (atE m c) (y 0) (y 1)).trans ?_)
  rw [inputs_eq]
  exact congrArg₂ (args m c).scales (Fin.ext (by blk_simp [index11])) (Fin.ext (by blk_simp [index11]))
theorem dgain_array : ((dats m 0 c).arrAt 9 cfg0.N : Vec Ideal S8x2x512 .f32) = fun i => (args m c).dgain (i 0) (i 1) (i 2) := by
  refine (dats m 0 c).arrAt_eq_of_covers 9 _ (by decide +kernel) fun t hf y => ?_
  blk_simp
  rw [after0_9, operand0, operand1, operand2, operand3, operand4, operand5, operand6, operand7]
  refine (congrArg _ (eq_ix3 y)).trans ((dgain_eq _ _ _ _ _ _ _ _ (y 0) (y 1) (y 2)).trans ?_)
  rw [inputs_eq]
  have e : (win0_9.blk t).view.emb y = y := by
    funext a; apply Fin.ext; fin_cases a <;> blk_simp [index9]
  exact congrArg (fun i : S8x2x512.Idx => (args m c).dgain (i 0) (i 1) (i 2)) e.symm

end Cert.ReferenceIdeal.Rows

end
-- ==== Proof.Strip.lean ====
/- The body's arithmetic on one STRIP of 32 tokens, as functions of the values it loads. The printed body repeats these
   operations for eight strips of a token block (and again in another control case); here each is named once: the row
   statistics, the gain-gradient terms, the latent gradient, the power-of-two scale and its inverse, the eight-bit codes
   and the dequantised gradient, the rotary block. The pieces that the run stores are shown to be these in Pieces.lean. -/
module

public import proofs.«01_k».proof.Proof.Gen.KernelIdeal

@[expose] public section

noncomputable section

namespace Cert.KernelIdeal.Strip

open Idealize.ShloMosaic Idealize.SL.Sem Cert.KernelIdeal.Gen

variable {F : FTy → Type} [FloatOps F]

/-! ## Loads widened -/

/-- A strip of the latents, widened. -/
def wc (C : Vec F S32x128 .bf16) : FVec F S32x128 .f32 := extf .f32 C bitsLt_bf16_f32
/-- A strip of the incoming gradient, widened. -/
def wd (D : Vec F S32x128 .bf16) : FVec F S32x128 .f32 :=
  extf .f32 (shapeCast S32x128 D shapeCasts_S32x128_S32x128) bitsLt_bf16_f32
/-- The gain row. -/
def gain (G : Vec F S1x512 .f32) : FVec F S1x512 .f32 := shapeCast S1x512 G shapeCasts_S1x512_S1x512
/-- A 128-lane group of the gain row. -/
def gainAt (G : Vec F S1x512 .f32) (o : Fin S1x512.rank → Nat) (h : S1x512.Slices o S1x128) : FVec F S1x128 .f32 :=
  extractStridedSlice S1x128 o (gain G) h
def zero32 : FVec F S32x128 .f32 := broadcast S32x128 (Scalar.ofBits .f32 0x00000000#32)
def zero8 : FVec F S8x128 .f32 := broadcast S8x128 (Scalar.ofBits .f32 0x00000000#32)
def col (x : FVec F S32x1 .f32) : FVec F S32x128 .f32 := broadcastTo S32x128 x broadcasts_S32x1_S32x128
def row (x : FVec F S1x128 .f32) : FVec F S32x128 .f32 := broadcastTo S32x128 x broadcasts_S1x128_S32x128

/-! ## Row statistics -/

/-- One more lane group in the running sum of squares. -/
def ssq (s : FVec F S32x128 .f32) (C : Vec F S32x128 .bf16) : FVec F S32x128 .f32 := addf s (mulf (wc C) (wc C))
/-- One more lane group in the running dot product of the latents with the gradient times the gain. -/
def dot (s : FVec F S32x128 .f32) (C D : Vec F S32x128 .bf16) (g : FVec F S1x128 .f32) : FVec F S32x128 .f32 :=
  addf s (mulf (mulf (wd D) (row g)) (wc C))
/-- The mean over the 512 lanes, from the four lane groups' sum. -/
def mean (s : FVec F S32x128 .f32) : FVec F S32x1 .f32 :=
  mulf (shapeCast S32x1 (multiReduction .add [1] S32 s 0x00000000#32 reduces_S32x128_S32 (.inl rfl) rfl) shapeCasts_S32_S32x1)
    (broadcast S32x1 (Scalar.ofBits .f32 0x3B000000#32))
def rstdOf (s : FVec F S32x128 .f32) : FVec F S32x1 .f32 :=
  rsqrt (addf (mean s) (broadcast S32x1 (Scalar.ofBits .f32 0x358637BD#32)))
def projOf (r : FVec F S32x1 .f32) (s : FVec F S32x128 .f32) : FVec F S32x1 .f32 := mulf (mulf r r) (mean s)

/-! ## Gradients -/

/-- The gain gradient's term of each token and lane. -/
def gs (C D : Vec F S32x128 .bf16) (r : FVec F S32x1 .f32) : FVec F S32x128 .f32 := mulf (mulf (wd D) (wc C)) (col r)
/-- A strip's terms folded to eight rows and added to the running fold. -/
def fold8 (s : FVec F S8x128 .f32) (x : FVec F S32x128 .f32) : FVec F S8x128 .f32 :=
  addf s (addf (addf (addf (addf zero8 (extractStridedSlice S8x128 ![0, 0] x slices_S32x128_o0_0_S8x128))
    (extractStridedSlice S8x128 ![8, 0] x slices_S32x128_o8_0_S8x128))
    (extractStridedSlice S8x128 ![16, 0] x slices_S32x128_o16_0_S8x128))
    (extractStridedSlice S8x128 ![24, 0] x slices_S32x128_o24_0_S8x128))
/-- The eight rows of a fold added up. -/
def fold1 (s : FVec F S8x128 .f32) : FVec F S1x128 .f32 :=
  shapeCast S1x128 (multiReduction .add [0] S128 s 0x00000000#32 reduces_S8x128_S128 (.inl rfl) rfl) shapeCasts_S128_S1x128
/-- A run's gain gradient: one row of 512 lanes. -/
def dgainRow (a b c d : FVec F S8x128 .f32) : FVec F S1x1x512 .f32 :=
  shapeCast S1x1x512 (concatenate S1x512 1 [⟨S1x128, fold1 a⟩, ⟨S1x128, fold1 b⟩, ⟨S1x128, fold1 c⟩, ⟨S1x128, fold1 d⟩]
    concatenates_S1x128_S1x128_S1x128_S1x128_S1x512_d1) shapeCasts_S1x512_S1x1x512
/-- The latent gradient of a lane group. -/
def dcv (C D : Vec F S32x128 .bf16) (g : FVec F S1x128 .f32) (r p : FVec F S32x1 .f32) : FVec F S32x128 .f32 :=
  mulf (col r) (subf (mulf (wd D) (row g)) (mulf (wc C) (col p)))

/-! ## The power-of-two scale of a row -/

/-- A row's largest magnitude over the format's largest, 128 lanes. -/
def amax (x : FVec F S32x128 .f32) : FVec F S32x1 .f32 :=
  mulf (shapeCast S32x1 (multiReduction .maximumf [1] S32 (absf x) 0xFF800000#32 reduces_S32x128_S32 (.inl rfl) rfl) shapeCasts_S32_S32x1)
    (broadcast S32x1 (Scalar.ofBits .f32 0x37924925#32))
/-- The same, 64 lanes. -/
def amaxRope (x : FVec F S32x64 .f32) : FVec F S32x1 .f32 :=
  mulf (shapeCast S32x1 (multiReduction .maximumf [1] S32 (absf x) 0xFF800000#32 reduces_S32x64_S32 (.inl rfl) rfl) shapeCasts_S32_S32x1)
    (broadcast S32x1 (Scalar.ofBits .f32 0x37924925#32))
/-- The powers of two that a value is compared with. -/
def powers : FVec F S1x256 .f32 :=
  bitcastToFloat .f32 (shli (iota .tc S1x256 32 [1] iota_S1x256_d1_w32) (broadcast S1x256 23#32))
/-- The exponent field: how many of the powers lie at or below the value, less one. -/
def expo (a : FVec F S32x1 .f32) : IVec S32x1 32 :=
  minsi (subi (shapeCast S32x1 (multiReductionI .add [1] S32
      (extui 32 (cmpf .oge (broadcastTo S32x256 a broadcasts_S32x1_S32x256) (broadcastTo S32x256 powers broadcasts_S1x256_S32x256)) natLt_1_32)
      0#32 reduces_S32x256_S32 rfl) shapeCasts_S32_S32x1) (broadcast S32x1 1#32)) (broadcast S32x1 252#32)
def scale (e : IVec S32x1 32) : FVec F S32x1 .f32 :=
  bitcastToFloat .f32 (shli (select (cmpi .eq e (broadcast S32x1 0#32)) (broadcast S32x1 127#32) (addi e (broadcast S32x1 1#32)))
    (broadcast S32x1 23#32))
def inv (e : IVec S32x1 32) : FVec F S32x1 .f32 :=
  bitcastToFloat .f32 (shli (select (cmpi .eq e (broadcast S32x1 0#32)) (broadcast S32x1 127#32) (subi (broadcast S32x1 253#32) e))
    (broadcast S32x1 23#32))

/-! ## Codes and the dequantised gradient -/

def codes (x : FVec F S32x128 .f32) (e : IVec S32x1 32) : FVec F S32x128 .fp8e5m2 :=
  truncf .fp8e5m2 (minimumf (broadcast S32x128 (Scalar.ofBits .f32 0x47600000#32))
    (maximumf (broadcast S32x128 (Scalar.ofBits .f32 0xC7600000#32)) (mulf x (col (inv e))))) bitsLt_fp8e5m2_f32
def codesRope (x : FVec F S32x64 .f32) (e : IVec S32x1 32) : FVec F S32x64 .fp8e5m2 :=
  truncf .fp8e5m2 (minimumf (broadcast S32x64 (Scalar.ofBits .f32 0x47600000#32))
    (maximumf (broadcast S32x64 (Scalar.ofBits .f32 0xC7600000#32))
      (mulf x (broadcastTo S32x64 (inv e) broadcasts_S32x1_S32x64)))) bitsLt_fp8e5m2_f32
def grad (x : FVec F S32x128 .f32) (e : IVec S32x1 32) : FVec F S32x128 .bf16 :=
  shapeCast S32x128 (mulf (extf .bf16 (codes x e) bitsLt_fp8e5m2_bf16)
    (broadcastTo S32x128 (truncf .bf16 (scale e) bitsLt_bf16_f32) broadcasts_S32x1_S32x128)) shapeCasts_S32x128_S32x128
def gradRope (x : FVec F S32x64 .f32) (e : IVec S32x1 32) : FVec F S32x64 .bf16 :=
  shapeCast S32x64 (mulf (extf .bf16 (codesRope x e) bitsLt_fp8e5m2_bf16)
    (broadcastTo S32x64 (truncf .bf16 (scale e) bitsLt_bf16_f32) broadcasts_S32x1_S32x64)) shapeCasts_S32x64_S32x64

def lane : IVec S32x128 32 := iota .tc S32x128 32 [1] iota_S32x128_d1_w32
/-- A scale put in its lane of the row of scales. -/
def put (g : BitVec 32) (s : FVec F S32x1 .f32) (acc : FVec F S32x128 .f32) : FVec F S32x128 .f32 :=
  select (cmpi .eq lane (broadcast S32x128 g)) (broadcastTo S32x128 (shapeCast S32x1 s shapeCasts_S32x1_S32x1) broadcasts_S32x1_S32x128) acc
/-- The five scales of each token of the strip. -/
def scales (e0 e1 e2 e3 e4 : IVec S32x1 32) : FVec F S32x5 .f32 :=
  extractStridedSlice S32x5 ![0, 0]
    (put 4#32 (scale e4) (put 3#32 (scale e3) (put 2#32 (scale e2) (put 1#32 (scale e1) (put 0#32 (scale e0) zero32)))))
    slices_S32x128_o0_0_S32x5

/-! ## The rotary block -/

/-- The batch row of the position block that a token block reads. -/
def batch (i : BitVec 32) : BitVec 32 :=
  let v15 : BitVec 32 := Scalar.subi i 1#32
  let v16 : BitVec 32 := Scalar.divsi v15 4#32
  Scalar.select (Scalar.andi
      (Scalar.cmpi .ne (Scalar.subi (Scalar.extui (Scalar.cmpi .sgt v15 0#32)) (Scalar.extui (Scalar.cmpi .slt v15 0#32)))
        (Scalar.subi (Scalar.extui (Scalar.cmpi .sgt 4#32 0#32)) (Scalar.extui (Scalar.cmpi .slt 4#32 0#32))))
      (Scalar.cmpi .ne (Scalar.remsi v15 4#32) 0#32))
    (Scalar.subi v16 1#32) v16
/-- The positions of 128 tokens, one token a row. -/
def posCol (b : BitVec 32) (P : Vec F S2x128 .i32) : FVec F S128x128 .f32 :=
  transpose S128x128 [1, 0] (broadcastTo S128x128 (shapeCast S1x128
    (Scalar.select (Scalar.cmpi .eq b 1#32) (extractStridedSlice S1x128 ![1, 0] (sitofp .f32 P) slices_S2x128_o1_0_S1x128)
      (extractStridedSlice S1x128 ![0, 0] (sitofp .f32 P : FVec F S2x128 .f32) slices_S2x128_o0_0_S1x128))
    shapeCasts_S1x128_S1x128) broadcasts_S1x128_S128x128) transposes_S128x128_p1_0_S128x128
def even : IVec S32x128 1 := cmpi .eq (andi lane (broadcast S32x128 1#32)) (broadcast S32x128 0#32)
/-- The first 64 lanes. -/
def low : IVec S32x128 1 := cmpi .eq (andi lane (broadcast S32x128 64#32)) (broadcast S32x128 0#32)
/-- Cosine in the first 64 lanes, sine with its sign in the others. -/
def trig (p : FVec F S32x128 .f32) (fr : Vec F S1x128 .f32) : FVec F S32x128 .f32 :=
  select low (cos (mulf p (row fr)))
    (select even (sin (mulf p (row fr))) (subf zero32 (sin (mulf p (row fr)))))
/-- The key gradient, its 64 lanes twice. -/
def twice (K : Vec F S32x64 .bf16) : FVec F S32x128 .f32 :=
  concatenate S32x128 1 [⟨S32x64, extf .f32 (shapeCast S32x64 K shapeCasts_S32x64_S32x64) bitsLt_bf16_f32⟩,
    ⟨S32x64, extf .f32 (shapeCast S32x64 K shapeCasts_S32x64_S32x64) bitsLt_bf16_f32⟩] concatenates_S32x64_S32x64_S32x128_d1
/-- The key gradient rotated back. -/
def dkr (p : FVec F S32x128 .f32) (fr : Vec F S1x128 .f32) (K : Vec F S32x64 .bf16) : FVec F S32x64 .f32 :=
  extractStridedSlice S32x64 ![0, 0]
    (addf (mulf (twice K) (trig p fr))
      (mulf (select even (dynamicRotate 1 127#32 none (twice K) rotates_S32x128_d1) (dynamicRotate 1 1#32 none (twice K) rotates_S32x128_d1))
        (dynamicRotate 1 64#32 none (trig p fr) rotates_S32x128_d1))) slices_S32x128_o0_0_S32x64

end Cert.KernelIdeal.Strip

end
-- ==== Proof.Pieces.lean ====
/- The pieces that the body stores for a token block, in one form for its two control cases: strip by strip and lane group
   by lane group, each piece the strip functions of Strip.lean at the strips of the values the body loads. -/
module

public import proofs.«01_k».proof.Proof.Strip

@[expose] public section

noncomputable section

namespace Cert.KernelIdeal.Strip

open Idealize.ShloMosaic Idealize.SL.Sem Cert.KernelIdeal.Gen

variable {F : FTy → Type} [FloatOps F]

/-! ## A strip's row functions, from its four lane groups -/

theorem slices_gain (g : Fin 4) : S1x512.Slices ![0, 128 * g.val] S1x128 := by fin_cases g <;> decide

/-- The gain of lane group `g`. -/
def gk (G : Vec F S1x512 .f32) (g : Fin 4) : FVec F S1x128 .f32 := gainAt G ![0, 128 * g.val] (slices_gain g)

section Row
variable (C D : Fin 4 → Vec F S32x128 .bf16) (G : Vec F S1x512 .f32)

def rstd : FVec F S32x1 .f32 := rstdOf (ssq (ssq (ssq (ssq zero32 (C 0)) (C 1)) (C 2)) (C 3))
def proj : FVec F S32x1 .f32 :=
  projOf (rstd C) (dot (dot (dot (dot zero32 (C 0) (D 0) (gk G 0)) (C 1) (D 1) (gk G 1)) (C 2) (D 2) (gk G 2)) (C 3) (D 3) (gk G 3))
/-- The latent gradient of lane group `g`. -/
def dc (g : Fin 4) : FVec F S32x128 .f32 := dcv (C g) (D g) (gk G g) (rstd C) (proj C D G)
/-- The exponent field of each row of lane group `g`. -/
def ex (g : Fin 4) : IVec S32x1 32 := expo (amax (dc C D G g))
end Row

theorem slices_pos (t : Fin 4) : S128x128.Slices ![32 * t.val, 0] S32x128 := by fin_cases t <;> decide

/-- The strip's positions, out of those of 128 tokens. -/
def posAt (b : BitVec 32) (P : Vec F S2x128 .i32) (t : Fin 4) : FVec F S32x128 .f32 :=
  extractStridedSlice S32x128 ![32 * t.val, 0] (posCol b P) (slices_pos t)

/-! ## Where the pieces lie -/

theorem inb_lat (s : Fin 8) (g : Fin 4) : ∀ a, ![32 * s.val, 128 * g.val] a + S32x128.size a ≤ S256x576.size a := by
  intro a; fin_cases a <;> simp [S32x128, S256x576] <;> omega
theorem inb_rope (s : Fin 8) : ∀ a, ![32 * s.val, 512] a + S32x64.size a ≤ S256x576.size a := by
  intro a; fin_cases a <;> simp [S32x64, S256x576]; omega
theorem inb_scales (s : Fin 8) : ∀ a, ![32 * s.val, 0] a + S32x5.size a ≤ S256x5.size a := by
  intro a; fin_cases a <;> simp [S32x5, S256x5]; omega
theorem inb_run (r : Fin 2) : ∀ a, ![0, r.val, 0] a + S1x1x512.size a ≤ S1x2x512.size a := by
  intro a; fin_cases a <;> simp [S1x1x512, S1x2x512]; omega

/-- The strip that is `t`-th of run `r`. -/
def strip (r : Fin 2) (t : Fin 4) : Fin 8 := ⟨4 * r.val + t.val, by omega⟩
/-- A strip's run. -/
def runOf (s : Fin 8) : Fin 2 := ⟨s.val / 4, by omega⟩
/-- A strip's place in its run. -/
def inRun (s : Fin 8) : Fin 4 := ⟨s.val % 4, by omega⟩

section Block
variable (b : BitVec 32) (C D : Fin 8 → Fin 4 → Vec F S32x128 .bf16) (G : Vec F S1x512 .f32)
  (K : Fin 8 → Vec F S32x64 .bf16) (P : Fin 2 → Vec F S2x128 .i32) (fr : Vec F S1x128 .f32)

/-- The rotated key gradient of strip `s`. -/
def rot (s : Fin 8) : FVec F S32x64 .f32 := dkr (posAt b (P (runOf s)) (inRun s)) fr (K s)
def exRot (s : Fin 8) : IVec S32x1 32 := expo (amaxRope (rot b K P fr s))

/-- The strips, last first. -/
def strips : List (Fin 8) := [7, 6, 5, 4, 3, 2, 1, 0]
def groups : List (Fin 4) := [3, 2, 1, 0]

/-- A block of 256 tokens and 576 lanes stored strip by strip: four lane groups, then the rotary lanes. -/
def tiles {e : EltTy} (rope : Fin 8 → Vec F S32x64 e) (latent : Fin 8 → Fin 4 → Vec F S32x128 e) :
    List (View.Piece (Elt F) S256x576 e) :=
  strips.flatMap fun s =>
    ⟨Rect.unit ![32 * s.val, 512] S32x64.size (inb_rope s), rope s⟩ ::
    groups.map fun g => ⟨Rect.unit ![32 * s.val, 128 * g.val] S32x128.size (inb_lat s g), latent s g⟩

def codesPieces : List (View.Piece (Elt F) S256x576 .fp8e5m2) :=
  tiles (fun s => codesRope (rot b K P fr s) (exRot b K P fr s)) (fun s g => codes (dc (C s) (D s) G g) (ex (C s) (D s) G g))

def gradPieces : List (View.Piece (Elt F) S256x576 .bf16) :=
  tiles (fun s => gradRope (rot b K P fr s) (exRot b K P fr s)) (fun s g => grad (dc (C s) (D s) G g) (ex (C s) (D s) G g))

def scalesPieces : List (View.Piece (Elt F) S256x5 .f32) :=
  strips.map fun s => ⟨Rect.unit ![32 * s.val, 0] S32x5.size (inb_scales s),
    scales (ex (C s) (D s) G 0) (ex (C s) (D s) G 1) (ex (C s) (D s) G 2) (ex (C s) (D s) G 3) (exRot b K P fr s)⟩

/-- The gain gradient's terms of a run's four strips, folded to eight rows. -/
def fold (r : Fin 2) (g : Fin 4) : FVec F S8x128 .f32 :=
  fold8 (fold8 (fold8 (fold8 zero8 (gs (C (strip r 0) g) (D (strip r 0) g) (rstd (C (strip r 0)))))
    (gs (C (strip r 1) g) (D (strip r 1) g) (rstd (C (strip r 1)))))
    (gs (C (strip r 2) g) (D (strip r 2) g) (rstd (C (strip r 2)))))
    (gs (C (strip r 3) g) (D (strip r 3) g) (rstd (C (strip r 3))))

def dgainPieces : List (View.Piece (Elt F) S1x2x512 .f32) :=
  [(1 : Fin 2), 0].map fun r => ⟨Rect.unit ![0, r.val, 0] S1x1x512.size (inb_run r),
    dgainRow (fold C D r 0) (fold C D r 1) (fold C D r 2) (fold C D r 3)⟩

end Block

/-! ## The body's loads -/

theorem inb_c (s : Fin 8) (g : Fin 4) : ∀ a, ![32 * s.val, 128 * g.val] a + S32x128.size a ≤ S256x512.size a := by
  intro a; fin_cases a <;> simp [S32x128, S256x512] <;> omega
theorem inb_k (s : Fin 8) : ∀ a, ![32 * s.val, 0] a + S32x64.size a ≤ S256x64.size a := by
  intro a; fin_cases a <;> simp [S32x64, S256x64]; omega
theorem inb_p (r : Fin 2) : ∀ a, ![0, 128 * r.val] a + S2x128.size a ≤ S2x256.size a := by
  intro a; fin_cases a <;> simp [S2x128, S2x256]; omega

/-- A strip and lane group of a block of 512 lanes. -/
abbrev rectC (s : Fin 8) (g : Fin 4) : Rect S256x512 := Rect.unit ![32 * s.val, 128 * g.val] S32x128.size (inb_c s g)
abbrev rectK (s : Fin 8) : Rect S256x64 := Rect.unit ![32 * s.val, 0] S32x64.size (inb_k s)
abbrev rectP (r : Fin 2) : Rect S2x256 := Rect.unit ![0, 128 * r.val] S2x128.size (inb_p r)

end Cert.KernelIdeal.Strip

end
-- ==== Proof.Rows.lean ====
/- The strip functions of Strip.lean, read at a row and a lane with extended reals: each is the row function of Spec.lean
   at the rows of the values loaded. -/
module

public import proofs.«01_k».proof.Proof.Pieces
public import proofs.«01_k».proof.Proof.Spec

@[expose] public section

noncomputable section

namespace Cert.KernelIdeal.Strip

open Idealize.ShloMosaic Idealize.SL.Sem Cert.KernelIdeal.Gen

section Latent
variable (C D : Fin 4 → Vec Ideal S32x128 .bf16) (G : Vec Ideal S1x512 .f32) (i : Fin 32) (c d gn : Fin 512 → EReal)
  (hC : ∀ g l, C g (ix2 i l) = c (Spec.lat g l)) (hD : ∀ g l, D g (ix2 i l) = d (Spec.lat g l))
  (hG : ∀ n, G (ix2 0 n) = gn n)

include hG in
theorem gk_apply (g : Fin 4) (l : Fin 128) : gk G g (ix2 0 l) = gn (Spec.lat g l) := by
  unfold gk
  pointwise [gainAt, gain]
  rw [← hG]
  rfl

include hC in
theorem rstd_apply : rstd C (ix2 i 0) = Spec.rstd c := by
  unfold Spec.rstd
  rw [Spec.sum_lat]
  pointwise [rstd, rstdOf, mean, ssq, wc, zero32, hC]
  rfl

include hC hD hG in
theorem proj_apply : proj C D G (ix2 i 0) = Spec.proj c d gn := by
  have hr := rstd_apply C i c hC
  have hg := gk_apply G gn hG
  unfold Spec.proj
  rw [Spec.sum_lat]
  pointwise [proj, projOf, mean, dot, wc, wd, row, zero32, hC, hD, hr, hg]
  rfl

include hC hD hG in
theorem dc_apply (g : Fin 4) (l : Fin 128) : dc C D G g (ix2 i l) = Spec.dc c d gn (Spec.lat g l) := by
  have hr := rstd_apply C i c hC
  have hp := proj_apply C D G i c d gn hC hD hG
  have hg := gk_apply G gn hG
  unfold Spec.dc
  pointwise [dc, dcv, wc, wd, row, col, hC, hD, hr, hp, hg]

end Latent

/-! ## Scales and codes -/

theorem amax_apply (x : FVec Ideal S32x128 .f32) (i : Fin 32) : amax x (ix2 i 0) = Spec.largest (fun l : Fin 128 => x (ix2 i l)) := by
  unfold Spec.largest Spec.invTop Spec.mag
  pointwise [amax, Spec.ofBits_negInf]
  rfl
theorem amaxRope_apply (x : FVec Ideal S32x64 .f32) (i : Fin 32) : amaxRope x (ix2 i 0) = Spec.largest (fun l : Fin 64 => x (ix2 i l)) := by
  unfold Spec.largest Spec.invTop Spec.mag
  pointwise [amaxRope, Spec.ofBits_negInf]
  rfl
theorem expo_apply (a : FVec Ideal S32x1 .f32) (i : Fin 32) (ha : (0 : EReal) ≤ a (ix2 i 0)) :
    expo a (ix2 i 0) = BitVec.ofNat 32 (Spec.steps (a (ix2 i 0))) := by
  pointwise [expo, powers]
  exact Spec.word_steps _ ha
theorem scale_apply (e : IVec S32x1 32) (i : Fin 32) (a : EReal) (h : e (ix2 i 0) = BitVec.ofNat 32 (Spec.steps a)) :
    scale (F := Ideal) e (ix2 i 0) = Spec.scaleOf a := by
  pointwise [scale, h]
  exact Spec.ofBits_scale _ (Spec.steps_le a)
theorem inv_apply (e : IVec S32x1 32) (i : Fin 32) (a : EReal) (h : e (ix2 i 0) = BitVec.ofNat 32 (Spec.steps a)) :
    inv (F := Ideal) e (ix2 i 0) = Spec.invOf a := by
  pointwise [inv, h]
  exact Spec.ofBits_inv _ (Spec.steps_le a)

theorem codes_apply (x : FVec Ideal S32x128 .f32) (e : IVec S32x1 32) (i : Fin 32) (l : Fin 128) (a : EReal)
    (h : e (ix2 i 0) = BitVec.ofNat 32 (Spec.steps a)) :
    codes x e (ix2 i l) = min Spec.top (max Spec.bottom (x (ix2 i l) * Spec.invOf a)) := by
  have := inv_apply e i a h
  unfold Spec.top Spec.bottom
  pointwise [codes, col, this]
theorem codesRope_apply (x : FVec Ideal S32x64 .f32) (e : IVec S32x1 32) (i : Fin 32) (l : Fin 64) (a : EReal)
    (h : e (ix2 i 0) = BitVec.ofNat 32 (Spec.steps a)) :
    codesRope x e (ix2 i l) = min Spec.top (max Spec.bottom (x (ix2 i l) * Spec.invOf a)) := by
  have := inv_apply e i a h
  unfold Spec.top Spec.bottom
  pointwise [codesRope, this]
theorem grad_apply (x : FVec Ideal S32x128 .f32) (e : IVec S32x1 32) (i : Fin 32) (l : Fin 128) (a : EReal)
    (h : e (ix2 i 0) = BitVec.ofNat 32 (Spec.steps a)) :
    grad x e (ix2 i l) = min Spec.top (max Spec.bottom (x (ix2 i l) * Spec.invOf a)) * Spec.scaleOf a := by
  have h1 := codes_apply x e i l a h
  have h2 := scale_apply e i a h
  pointwise [grad, h1, h2]
theorem gradRope_apply (x : FVec Ideal S32x64 .f32) (e : IVec S32x1 32) (i : Fin 32) (l : Fin 64) (a : EReal)
    (h : e (ix2 i 0) = BitVec.ofNat 32 (Spec.steps a)) :
    gradRope x e (ix2 i l) = min Spec.top (max Spec.bottom (x (ix2 i l) * Spec.invOf a)) * Spec.scaleOf a := by
  have h1 := codesRope_apply x e i l a h
  have h2 := scale_apply e i a h
  pointwise [gradRope, h1, h2]

theorem scales_apply (e0 e1 e2 e3 e4 : IVec S32x1 32) (i : Fin 32) (b : Fin 5) :
    scales (F := Ideal) e0 e1 e2 e3 e4 (ix2 i b) = ![scale e0, scale e1, scale e2, scale e3, scale e4] b (ix2 i 0) := by
  fin_cases b <;> · pointwise [scales, put, lane]; try rfl

/-! ## The gain gradient -/

/-- Row `i` of the `q`-th eight rows of a strip. -/
def eighth (q : Fin 4) (i : Fin 8) : Fin 32 := ⟨8 * q.val + i.val, by omega⟩

theorem fold8_apply (s : FVec Ideal S8x128 .f32) (x : FVec Ideal S32x128 .f32) (i : Fin 8) (l : Fin 128) :
    fold8 s x (ix2 i l) = s (ix2 i l) + ∑ q : Fin 4, x (ix2 (eighth q i) l) := by
  rw [Fin.sum_univ_four]
  pointwise [fold8, zero8, eighth]

theorem fold1_apply (s : FVec Ideal S8x128 .f32) (l : Fin 128) : fold1 s (ix2 0 l) = ∑ i : Fin 8, s (ix2 i l) := by
  pointwise [fold1]

theorem dgainRow_apply (a : Fin 4 → FVec Ideal S8x128 .f32) (g : Fin 4) (l : Fin 128) :
    dgainRow (a 0) (a 1) (a 2) (a 3) (ix3 0 0 (Spec.lat g l)) = ∑ i : Fin 8, a g (ix2 i l) := by
  have h := fun g => fold1_apply (a g) l
  rw [← h]
  pointwise [dgainRow, Spec.lat]
  by_cases h0 : 128 * g.val + l.val < 128
  · rw [dif_pos h0]
    obtain rfl : g = 0 := Fin.ext (show g.val = 0 by omega)
    exact congrArg (fun q => fold1 (a 0) (ix2 0 q)) (Fin.ext (show 128 * 0 + l.val = l.val by omega))
  rw [dif_neg h0]
  by_cases h1 : 128 * g.val + l.val - 128 < 128
  · rw [dif_pos h1]
    obtain rfl : g = 1 := Fin.ext (show g.val = 1 by omega)
    exact congrArg (fun q => fold1 (a 1) (ix2 0 q)) (Fin.ext (show 128 * 1 + l.val - 128 = l.val by omega))
  rw [dif_neg h1]
  by_cases h2 : 128 * g.val + l.val - 128 - 128 < 128
  · rw [dif_pos h2]
    obtain rfl : g = 2 := Fin.ext (show g.val = 2 by omega)
    exact congrArg (fun q => fold1 (a 2) (ix2 0 q)) (Fin.ext (show 128 * 2 + l.val - 128 - 128 = l.val by omega))
  rw [dif_neg h2]
  obtain rfl : g = 3 := Fin.ext (show g.val = 3 by omega)
  exact congrArg (fun q => fold1 (a 3) (ix2 0 q)) (Fin.ext (show 128 * 3 + l.val - 128 - 128 - 128 = l.val by omega))

/-! ## The rotary block -/

theorem posCol_apply (b : BitVec 32) (P : Vec Ideal S2x128 .i32) (j l : Fin 128) :
    posCol b P (ix2 j l) = ((((P (ix2 (if b = 1#32 then 1 else 0) j)).toInt : ℝ)) : EReal) := by
  by_cases h : b = 1#32
  · pointwise [posCol, h]; rfl
  · have hc : Scalar.cmpi .eq b 1#32 = 0#1 := by
      show BitVec.ofBool (b == 1#32) = 0#1
      rw [beq_eq_false_iff_ne.2 h]; rfl
    pointwise [posCol, h, hc]; rfl

/-- Token `i` of the `t`-th strip of a run. -/
def runTok (t : Fin 4) (i : Fin 32) : Fin 128 := ⟨32 * t.val + i.val, by omega⟩
/-- The rotary pair of a lane of the frequency table, whose halves both list the 64 lanes. -/
def pair (l : Fin 128) : Fin 32 := ⟨l.val % 64 / 2, by omega⟩

theorem posAt_apply (b : BitVec 32) (P : Vec Ideal S2x128 .i32) (t : Fin 4) (i : Fin 32) (l : Fin 128) :
    posAt b P t (ix2 i l) = ((((P (ix2 (if b = 1#32 then 1 else 0) (runTok t i))).toInt : ℝ)) : EReal) := by
  rw [← posCol_apply b P _ l]
  pointwise [posAt]; rfl

theorem even_apply (i : Fin 32) (l : Fin 128) : even (ix2 i l) = BitVec.ofBool (decide (l.val % 2 = 0)) := by
  have key : ∀ l : Fin 128, IntOp.cmpi .eq (IntOp.andi (BitVec.ofNat 32 l.val) 1#32) 0#32 = BitVec.ofBool (decide (l.val % 2 = 0)) := by
    decide +kernel
  pointwise [even, lane]
  exact key l

theorem low_apply (i : Fin 32) (l : Fin 128) :
    low (ix2 i l) = BitVec.ofBool (decide (l.val < 64)) := by
  have key : ∀ l : Fin 128, IntOp.cmpi .eq (IntOp.andi (BitVec.ofNat 32 l.val) 64#32) 0#32 = BitVec.ofBool (decide (l.val < 64)) := by
    decide +kernel
  pointwise [low, lane]
  exact key l

theorem twice_apply (K : Vec Ideal S32x64 .bf16) (i : Fin 32) (l : Fin 128) :
    twice K (ix2 i l) = K (ix2 i ⟨l.val % 64, by omega⟩) := by
  pointwise [twice]
  by_cases h : l.val < 64
  · rw [dif_pos h]
    exact congrArg (fun q => K (ix2 i q)) (Fin.ext (by show l.val = l.val % 64; omega))
  · rw [dif_neg h]
    exact congrArg (fun q => K (ix2 i q)) (Fin.ext (by show l.val - 64 = l.val % 64; omega))

section Rotary
variable (x : FVec Ideal S32x128 .f32) (fr : Vec Ideal S1x128 .f32) (i : Fin 32) (p : EReal) (f : Fin 32 → EReal)
  (hx : ∀ l, x (ix2 i l) = p) (hf : ∀ l : Fin 128, fr (ix2 0 l) = f (pair l))

include hx hf in
theorem trig_low (l : Fin 128) (h : l.val < 64) : trig x fr (ix2 i l) = Ideal.cos (p * f (pair l)) := by
  have hl := low_apply i l
  pointwise [trig, row, hx, hf] at *
  rw [hl]
  simp only [h, decide_true]
  rfl

include hx hf in
theorem trig_high (l : Fin 128) (h : ¬ l.val < 64) : trig x fr (ix2 i l)
    = if l.val % 2 = 0 then Ideal.sin (p * f (pair l)) else 0 - Ideal.sin (p * f (pair l)) := by
  have hl := low_apply i l
  have he := even_apply i l
  pointwise [trig, row, hx, hf, zero32] at *
  rw [hl, he]
  by_cases h2 : l.val % 2 = 0 <;> simp only [h, h2, decide_true, decide_false, if_true, if_false] <;> rfl

include hx hf in
theorem dkr_apply (K : Vec Ideal S32x64 .bf16) (k : Fin 64 → EReal) (hk : ∀ l, K (ix2 i l) = k l) (l : Fin 64) :
    dkr x fr K (ix2 i l) = Spec.rotate p f k l := by
  have h1 := trig_low x fr i p f hx hf ⟨l.val, by omega⟩ (by show l.val < 64; omega)
  have h2 := trig_high x fr i p f hx hf ⟨(l.val + 128 - 64) % 128, by omega⟩ (by show ¬ (l.val + 128 - 64) % 128 < 64; omega)
  have he := even_apply i ⟨l.val, by omega⟩
  have ht := twice_apply K i
  unfold Spec.rotate
  pointwise [dkr, h1, h2, he, ht, hk, pair]
  have e1 : (⟨l.val % 64, by omega⟩ : Fin 64) = l := Fin.ext (show l.val % 64 = l.val by omega)
  have e2 : (⟨(l.val + 128 - 64) % 128 % 64 / 2, by omega⟩ : Fin 32) = ⟨l.val / 2, by omega⟩ :=
    Fin.ext (show (l.val + 128 - 64) % 128 % 64 / 2 = l.val / 2 by omega)
  have e4 : (⟨l.val % 64 / 2, by omega⟩ : Fin 32) = ⟨l.val / 2, by omega⟩ := Fin.ext (show l.val % 64 / 2 = l.val / 2 by omega)
  by_cases h : l.val % 2 = 0
  · have e3 : (⟨(l.val + 128 - 127) % 128 % 64, by omega⟩ : Fin 64) = ⟨l.val + 1, by omega⟩ :=
      Fin.ext (show (l.val + 128 - 127) % 128 % 64 = l.val + 1 by omega)
    rw [if_pos h, dif_pos h, if_pos (by omega), e1, e2, e3, e4]
  · have e3 : (⟨(l.val + 128 - 1) % 128 % 64, by omega⟩ : Fin 64) = ⟨l.val - 1, by omega⟩ :=
      Fin.ext (show (l.val + 128 - 1) % 128 % 64 = l.val - 1 by omega)
    rw [if_neg h, dif_neg h, if_neg (by omega), e1, e2, e3, e4]

end Rotary

end Cert.KernelIdeal.Strip

end
-- ==== Proof.Block.lean ====
/- What a token block's stored pieces amount to with extended reals, index by index: the codes, the scales, the dequantised
   gradient and the gain gradient of Spec.lean at the rows of the block's values. -/
module

public import proofs.«01_k».proof.Proof.Rows
public import Idealize.ShloMosaic.Lib.Pipeline.Value

@[expose] public section

noncomputable section

namespace Cert.KernelIdeal.Strip

open Idealize.ShloMosaic Idealize.SL.Sem Cert.KernelIdeal.Gen

variable {F : FTy → Type} [FloatOps F]

/-- Token `i` of strip `s`. -/
def tok (s : Fin 8) (i : Fin 32) : Fin 256 := ⟨32 * s.val + i.val, by omega⟩
/-- Token `j` of run `r`. -/
def runRow (r : Fin 2) (j : Fin 128) : Fin 256 := ⟨128 * r.val + j.val, by omega⟩
/-- Lane group `g` as a block of the row. -/
def grp (g : Fin 4) : Fin 5 := ⟨g.val, by omega⟩
/-- Lane `l` of lane group `g`, and lane `l` of the rotary block, in the row of 576 lanes. -/
def latLane (g : Fin 4) (l : Fin 128) : Fin 576 := ⟨128 * g.val + l.val, by omega⟩
def ropeLane (l : Fin 64) : Fin 576 := ⟨512 + l.val, by omega⟩

theorem mem_strips (s : Fin 8) : s ∈ strips := by fin_cases s <;> decide
theorem mem_groups (g : Fin 4) : g ∈ groups := by fin_cases g <;> decide

/-- The tiles of a block leave the function they are all restrictions of. -/
theorem canon_tiles [∀ e, Nonempty (Elt F e)] {e : EltTy} (rope : Fin 8 → Vec F S32x64 e) (latent : Fin 8 → Fin 4 → Vec F S32x128 e)
    (G : Fin 256 → Fin 576 → Elt F e) (hr : ∀ s i l, rope s (ix2 i l) = G (tok s i) (ropeLane l))
    (hl : ∀ s g i l, latent s g (ix2 i l) = G (tok s i) (latLane g l)) (t : Fin 256) (n : Fin 576) :
    View.canon (tiles (F := F) rope latent) (ix2 t n) = G t n := by
  refine (View.canon_apply_of_pieces (fun y : S256x576.Idx => G (y 0) (y 1)) _ (fun p hp x => ?_) (ix2 t n) ?_).trans rfl
  · simp only [tiles, List.mem_flatMap, List.mem_cons, List.mem_map] at hp
    obtain ⟨s, -, rfl | ⟨g, -, rfl⟩⟩ := hp
    · refine (congrArg (rope s) (eq_ix2 x)).trans ((hr s (x 0) (x 1)).trans ?_)
      refine congrArg₂ G (Fin.ext ?_) (Fin.ext ?_)
      · show 32 * s.val + (x 0).val = 32 * s.val + 1 * (x 0).val; omega
      · show 512 + (x 1).val = 512 + 1 * (x 1).val; omega
    · refine (congrArg (latent s g) (eq_ix2 x)).trans ((hl s g (x 0) (x 1)).trans ?_)
      refine congrArg₂ G (Fin.ext ?_) (Fin.ext ?_)
      · show 32 * s.val + (x 0).val = 32 * s.val + 1 * (x 0).val; omega
      · show 128 * g.val + (x 1).val = 128 * g.val + 1 * (x 1).val; omega
  · have ht := t.isLt
    have hn := n.isLt
    simp only [tiles, List.mem_flatMap, List.mem_cons, List.mem_map]
    by_cases h : n.val < 512
    · refine ⟨_, ⟨⟨t.val / 32, by omega⟩, mem_strips _, .inr ⟨⟨n.val / 128, by omega⟩, mem_groups _, rfl⟩⟩, ?_⟩
      rw [Rect.mem_set_unit]
      intro a
      fin_cases a
      · show 32 * (t.val / 32) ≤ t.val ∧ t.val < 32 * (t.val / 32) + 32; omega
      · show 128 * (n.val / 128) ≤ n.val ∧ n.val < 128 * (n.val / 128) + 128; omega
    · refine ⟨_, ⟨⟨t.val / 32, by omega⟩, mem_strips _, .inl rfl⟩, ?_⟩
      rw [Rect.mem_set_unit]
      intro a
      fin_cases a
      · show 32 * (t.val / 32) ≤ t.val ∧ t.val < 32 * (t.val / 32) + 32; omega
      · show 512 ≤ n.val ∧ n.val < 512 + 64; omega

section Block
variable (b : BitVec 32) (C D : Fin 8 → Fin 4 → Vec Ideal S32x128 .bf16) (G : Vec Ideal S1x512 .f32)
  (K : Fin 8 → Vec Ideal S32x64 .bf16) (P : Fin 2 → Vec Ideal S2x128 .i32) (fr : Vec Ideal S1x128 .f32)
variable (c d : Fin 256 → Fin 512 → EReal) (gn : Fin 512 → EReal) (k : Fin 256 → Fin 64 → EReal) (p : Fin 256 → EReal)
  (f : Fin 32 → EReal)

/-- The block's values, as rows of extended reals. -/
structure Values : Prop where
  hC : ∀ s g i l, C s g (ix2 i l) = c (tok s i) (Spec.lat g l)
  hD : ∀ s g i l, D s g (ix2 i l) = d (tok s i) (Spec.lat g l)
  hG : ∀ n, G (ix2 0 n) = gn n
  hK : ∀ s i l, K s (ix2 i l) = k (tok s i) l
  hP : ∀ (r : Fin 2) (j : Fin 128), ((((P r (ix2 (if b = 1#32 then 1 else 0) j)).toInt : ℝ)) : EReal) = p (runRow r j)
  hf : ∀ l : Fin 128, fr (ix2 0 l) = f (pair l)

variable (h : Values b C D G K P fr c d gn k p f)

/-- The key gradient of token `t`, rotated back. -/
def krow (t : Fin 256) : Fin 64 → EReal := Spec.rotate (p t) f (k t)

include h

theorem rot_apply (s : Fin 8) (i : Fin 32) (l : Fin 64) : rot b K P fr s (ix2 i l) = krow k p f (tok s i) l := by
  refine dkr_apply _ fr i (p (tok s i)) f (fun l => ?_) h.hf (K s) (k (tok s i)) (h.hK s i) l
  rw [posAt_apply, h.hP]
  exact congrArg p (Fin.ext (by
    show 128 * (s.val / 4) + (32 * (s.val % 4) + i.val) = 32 * s.val + i.val; omega))

theorem dcs_apply (s : Fin 8) (g : Fin 4) (i : Fin 32) (l : Fin 128) :
    dc (C s) (D s) G g (ix2 i l) = Spec.dc (c (tok s i)) (d (tok s i)) gn (Spec.lat g l) :=
  dc_apply (C s) (D s) G i _ _ gn (fun g l => h.hC s g i l) (fun g l => h.hD s g i l) h.hG g l

theorem block_lat (s : Fin 8) (g : Fin 4) (i : Fin 32) :
    amax (dc (C s) (D s) G g) (ix2 i 0)
      = Spec.block (c (tok s i)) (d (tok s i)) gn (krow k p f (tok s i)) (grp g) := by
  rw [amax_apply]
  unfold Spec.block
  rw [dif_pos (show (grp g).val < 4 from g.isLt)]
  exact congrArg Spec.largest (funext fun l => dcs_apply b C D G K P fr c d gn k p f h s g i l)

theorem block_rope (s : Fin 8) (i : Fin 32) :
    amaxRope (rot b K P fr s) (ix2 i 0) = Spec.block (c (tok s i)) (d (tok s i)) gn (krow k p f (tok s i)) 4 := by
  rw [amaxRope_apply]
  unfold Spec.block
  rw [dif_neg (by decide)]
  exact congrArg Spec.largest (funext fun l => rot_apply b C D G K P fr c d gn k p f h s i l)

theorem ex_lat (s : Fin 8) (g : Fin 4) (i : Fin 32) : ex (C s) (D s) G g (ix2 i 0)
    = BitVec.ofNat 32 (Spec.steps (Spec.block (c (tok s i)) (d (tok s i)) gn (krow k p f (tok s i)) (grp g))) := by
  rw [← block_lat b C D G K P fr c d gn k p f h]
  exact expo_apply _ i (by rw [amax_apply]; exact Spec.largest_nonneg (by norm_num) _)

theorem ex_rope (s : Fin 8) (i : Fin 32) : exRot b K P fr s (ix2 i 0)
    = BitVec.ofNat 32 (Spec.steps (Spec.block (c (tok s i)) (d (tok s i)) gn (krow k p f (tok s i)) 4)) := by
  rw [← block_rope b C D G K P fr c d gn k p f h]
  exact expo_apply _ i (by rw [amaxRope_apply]; exact Spec.largest_nonneg (by norm_num) _)

omit h in
theorem lane_lat (c d gn : Fin 512 → EReal) (k : Fin 64 → EReal) (g : Fin 4) (l : Fin 128) :
    Spec.lane c d gn k (latLane g l) = Spec.dc c d gn (Spec.lat g l) ∧ Spec.blockOf (latLane g l) = grp g := by
  constructor
  · exact dif_pos (show 128 * g.val + l.val < 512 by omega)
  · exact Fin.ext (by show (128 * g.val + l.val) / 128 = g.val; omega)

omit h in
theorem lane_rope (c d gn : Fin 512 → EReal) (k : Fin 64 → EReal) (l : Fin 64) :
    Spec.lane c d gn k (ropeLane l) = k l ∧ Spec.blockOf (ropeLane l) = 4 := by
  constructor
  · refine (dif_neg (show ¬ 512 + l.val < 512 by omega)).trans (congrArg k (Fin.ext ?_))
    show 512 + l.val - 512 = l.val; omega
  · exact Fin.ext (by show (512 + l.val) / 128 = 4; omega)

/-- The codes the block stores. -/
theorem codes_block (t : Fin 256) (n : Fin 576) :
    View.canon (codesPieces b C D G K P fr) (ix2 t n) = Spec.code (c t) (d t) gn (krow k p f t) n := by
  refine canon_tiles (F := Ideal) (e := .fp8e5m2) _ _ (fun t n => Spec.code (c t) (d t) gn (krow k p f t) n) (fun s i l => ?_) (fun s g i l => ?_) t n
  · rw [codesRope_apply _ _ i l _ (ex_rope b C D G K P fr c d gn k p f h s i), rot_apply b C D G K P fr c d gn k p f h]
    unfold Spec.code
    rw [(lane_rope _ _ _ _ l).1, (lane_rope (c (tok s i)) (d (tok s i)) gn (krow k p f (tok s i)) l).2]
  · rw [codes_apply _ _ i l _ (ex_lat b C D G K P fr c d gn k p f h s g i), dcs_apply b C D G K P fr c d gn k p f h]
    unfold Spec.code
    rw [(lane_lat _ _ _ _ g l).1, (lane_lat (c (tok s i)) (d (tok s i)) gn (krow k p f (tok s i)) g l).2]

/-- The dequantised gradient the block keeps for its matrix product. -/
theorem grad_block (t : Fin 256) (n : Fin 576) :
    View.canon (gradPieces b C D G K P fr) (ix2 t n) = Spec.grad (c t) (d t) gn (krow k p f t) n := by
  refine canon_tiles (F := Ideal) (e := .bf16) _ _ (fun t n => Spec.grad (c t) (d t) gn (krow k p f t) n) (fun s i l => ?_) (fun s g i l => ?_) t n
  · rw [gradRope_apply _ _ i l _ (ex_rope b C D G K P fr c d gn k p f h s i), rot_apply b C D G K P fr c d gn k p f h]
    unfold Spec.grad Spec.code Spec.scale
    rw [(lane_rope _ _ _ _ l).1, (lane_rope (c (tok s i)) (d (tok s i)) gn (krow k p f (tok s i)) l).2]
  · rw [grad_apply _ _ i l _ (ex_lat b C D G K P fr c d gn k p f h s g i), dcs_apply b C D G K P fr c d gn k p f h]
    unfold Spec.grad Spec.code Spec.scale
    rw [(lane_lat _ _ _ _ g l).1, (lane_lat (c (tok s i)) (d (tok s i)) gn (krow k p f (tok s i)) g l).2]

theorem scales_piece (s : Fin 8) (x : S32x5.Idx) :
    scales (F := Ideal) (ex (C s) (D s) G 0) (ex (C s) (D s) G 1) (ex (C s) (D s) G 2) (ex (C s) (D s) G 3) (exRot b K P fr s) x
      = (fun y : S256x5.Idx => Spec.scale (c (y 0)) (d (y 0)) gn (krow k p f (y 0)) (y 1))
          ((Rect.unit (s := S256x5) ![32 * s.val, 0] S32x5.size (inb_scales s)).emb x) := by
  obtain ⟨i, m, rfl⟩ : ∃ (i : Fin 32) (m : Fin 5), x = ix2 i m := ⟨x 0, x 1, eq_ix2 x⟩
  have e0 : (Rect.unit (s := S256x5) ![32 * s.val, 0] S32x5.size (inb_scales s)).emb (ix2 i m) 0 = tok s i :=
    Fin.ext (by show 32 * s.val + 1 * i.val = 32 * s.val + i.val; omega)
  have e1 : (Rect.unit (s := S256x5) ![32 * s.val, 0] S32x5.size (inb_scales s)).emb (ix2 i m) 1 = m :=
    Fin.ext (by show 0 + 1 * m.val = m.val; omega)
  show _ = Spec.scale _ _ _ _ _
  rw [e0, e1, scales_apply]
  have hl := fun g => scale_apply _ i _ (ex_lat b C D G K P fr c d gn k p f h s g i)
  have hr := scale_apply _ i _ (ex_rope b C D G K P fr c d gn k p f h s i)
  fin_cases m
  · exact hl 0
  · exact hl 1
  · exact hl 2
  · exact hl 3
  · exact hr

/-- The scales the block stores. -/
theorem scales_block (t : Fin 256) (m : Fin 5) :
    View.canon (scalesPieces b C D G K P fr) (ix2 t m) = Spec.scale (c t) (d t) gn (krow k p f t) m := by
  refine (View.canon_apply_of_pieces (fun y : S256x5.Idx => Spec.scale (c (y 0)) (d (y 0)) gn (krow k p f (y 0)) (y 1)) _
    (fun q hq x => ?_) (ix2 t m) ?_).trans rfl
  · simp only [scalesPieces, List.mem_map] at hq
    obtain ⟨s, -, rfl⟩ := hq
    exact scales_piece b C D G K P fr c d gn k p f h s x
  · have ht := t.isLt
    have hm := m.isLt
    simp only [scalesPieces, List.mem_map]
    refine ⟨_, ⟨⟨t.val / 32, by omega⟩, mem_strips _, rfl⟩, ?_⟩
    rw [Rect.mem_set_unit]
    intro a
    fin_cases a
    · show 32 * (t.val / 32) ≤ t.val ∧ t.val < 32 * (t.val / 32) + 32; omega
    · show 0 ≤ m.val ∧ m.val < 0 + 5; omega

/-! ## The gain gradient -/

theorem gs_apply (s : Fin 8) (g : Fin 4) (i : Fin 32) (l : Fin 128) :
    gs (C s g) (D s g) (rstd (C s)) (ix2 i l) = Spec.dgainTerm (c (tok s i)) (d (tok s i)) (Spec.lat g l) := by
  have hr := rstd_apply (C s) i _ (fun g l => h.hC s g i l)
  have h1 := h.hC s g i l
  have h2 := h.hD s g i l
  unfold Spec.dgainTerm
  pointwise [gs, wc, wd, col, hr, h1, h2]

/-- Token number of row `i` of the `q`-th eight rows of the `t`-th strip of a run. -/
def visit (i : Fin 8) (t q : Fin 4) : Fin 128 := runTok t (eighth q i)

omit h in
/-- A sum over 128 tokens, as the fold visits them: eight rows, each of four strips' four rows. -/
theorem sum_tokens (T : Fin 128 → EReal) : ∑ j, T j = ∑ i : Fin 8, ∑ t : Fin 4, ∑ q : Fin 4, T (visit i t q) := by
  have h1 : ∑ j, T j = ∑ q : Fin 16 × Fin 8, T ⟨8 * q.1.val + q.2.val, by omega⟩ :=
    (Equiv.sum_comp (finProdFinEquiv (m := 16) (n := 8)) T).symm.trans
      (Finset.sum_congr rfl fun q _ => congrArg T (Fin.ext (by
        show q.2.val + 8 * q.1.val = 8 * q.1.val + q.2.val; omega)))
  rw [h1, Fintype.sum_prod_type_right]
  refine Finset.sum_congr rfl fun i _ => ?_
  have h2 : ∀ U : Fin 16 → EReal, ∑ j, U j = ∑ t : Fin 4, ∑ q : Fin 4, U ⟨4 * t.val + q.val, by omega⟩ := fun U => by
    rw [← Fintype.sum_prod_type']
    exact (Equiv.sum_comp (finProdFinEquiv (m := 4) (n := 4)) U).symm.trans
      (Finset.sum_congr rfl fun q _ => congrArg U (Fin.ext (by
        show q.2.val + 4 * q.1.val = 4 * q.1.val + q.2.val; omega)))
  rw [h2]
  refine Finset.sum_congr rfl fun t _ => Finset.sum_congr rfl fun q _ => congrArg T (Fin.ext ?_)
  show 8 * (4 * t.val + q.val) + i.val = 32 * t.val + (8 * q.val + i.val)
  omega

theorem fold_apply (r : Fin 2) (g : Fin 4) (i : Fin 8) (l : Fin 128) :
    fold C D r g (ix2 i l) = ∑ t : Fin 4, ∑ q : Fin 4,
      Spec.dgainTerm (c (runRow r (visit i t q))) (d (runRow r (visit i t q))) (Spec.lat g l) := by
  have key : ∀ t q : Fin 4, gs (C (strip r t) g) (D (strip r t) g) (rstd (C (strip r t))) (ix2 (eighth q i) l)
      = Spec.dgainTerm (c (runRow r (visit i t q))) (d (runRow r (visit i t q))) (Spec.lat g l) := fun t q => by
    rw [gs_apply b C D G K P fr c d gn k p f h]
    have : tok (strip r t) (eighth q i) = runRow r (visit i t q) := Fin.ext (by
      show 32 * (4 * r.val + t.val) + (8 * q.val + i.val) = 128 * r.val + (32 * t.val + (8 * q.val + i.val)); omega)
    rw [this]
  unfold fold
  rw [fold8_apply, fold8_apply, fold8_apply, fold8_apply, Fin.sum_univ_four (fun t : Fin 4 => ∑ q : Fin 4, Spec.dgainTerm _ _ _)]
  simp only [key]
  have hz : zero8 (F := Ideal) (ix2 i l) = 0 := by pointwise [zero8]
  rw [hz, zero_add]

theorem dgain_piece (r : Fin 2) (x : S1x1x512.Idx) :
    dgainRow (fold C D r 0) (fold C D r 1) (fold C D r 2) (fold C D r 3) x
      = ∑ j : Fin 128, Spec.dgainTerm
          (c (runRow ((Rect.unit (s := S1x2x512) ![0, r.val, 0] S1x1x512.size (inb_run r)).emb x 1) j))
          (d (runRow ((Rect.unit (s := S1x2x512) ![0, r.val, 0] S1x1x512.size (inb_run r)).emb x 1) j))
          ((Rect.unit (s := S1x2x512) ![0, r.val, 0] S1x1x512.size (inb_run r)).emb x 2) := by
  obtain ⟨a, a', n, rfl⟩ : ∃ (a : Fin 1) (a' : Fin 1) (n : Fin 512), x = ix3 a a' n := ⟨x 0, x 1, x 2, eq_ix3 x⟩
  obtain rfl : a = 0 := Subsingleton.elim _ _
  obtain rfl : a' = 0 := Subsingleton.elim _ _
  have e1 : (Rect.unit (s := S1x2x512) ![0, r.val, 0] S1x1x512.size (inb_run r)).emb (ix3 0 0 n) 1 = r :=
    Fin.ext (by show r.val + 1 * 0 = r.val; omega)
  have e2 : (Rect.unit (s := S1x2x512) ![0, r.val, 0] S1x1x512.size (inb_run r)).emb (ix3 0 0 n) 2 = n :=
    Fin.ext (by show 0 + 1 * n.val = n.val; omega)
  rw [e1, e2]
  obtain ⟨g, l, rfl⟩ : ∃ g l, Spec.lat g l = n :=
    ⟨⟨n.val / 128, by omega⟩, ⟨n.val % 128, by omega⟩, Fin.ext (by show 128 * (n.val / 128) + n.val % 128 = n.val; omega)⟩
  refine (dgainRow_apply (fold C D r) g l).trans ?_
  rw [sum_tokens]
  exact Finset.sum_congr rfl fun i _ => fold_apply b C D G K P fr c d gn k p f h r g i l

/-- The gain gradient the block stores: each run's sum over its 128 tokens. -/
theorem dgain_block (r : Fin 2) (n : Fin 512) :
    View.canon (dgainPieces C D) (ix3 0 r n)
      = ∑ j : Fin 128, Spec.dgainTerm (c (runRow r j)) (d (runRow r j)) n := by
  refine (View.canon_apply_of_pieces (fun y : S1x2x512.Idx => ∑ j : Fin 128,
    Spec.dgainTerm (c (runRow (y 1) j)) (d (runRow (y 1) j)) (y 2)) _
    (fun q hq x => ?_) (ix3 0 r n) ?_).trans rfl
  · simp only [dgainPieces, List.mem_map] at hq
    obtain ⟨r, -, rfl⟩ := hq
    exact dgain_piece b C D G K P fr c d gn k p f h r x
  · have hr := r.isLt
    have hn := n.isLt
    simp only [dgainPieces, List.mem_map]
    refine ⟨_, ⟨r, by fin_cases r <;> simp, rfl⟩, ?_⟩
    rw [Rect.mem_set_unit]
    intro a
    fin_cases a
    · show 0 ≤ 0 ∧ 0 < 0 + 1; omega
    · show r.val ≤ r.val ∧ r.val < r.val + 1; omega
    · show 0 ≤ n.val ∧ n.val < 0 + 512; omega

end Block

end Cert.KernelIdeal.Strip

end
-- ==== Proof.Loads.lean ====
/- The parts of a block that the run loads, strip by strip, as rows of the arrays they are loaded from. -/
module

public import proofs.«01_k».proof.Proof.Block
public import Idealize.ShloMosaic.Lib.Pipeline.FrameBody

@[expose] public section

noncomputable section

namespace Cert.KernelIdeal.Strip

open Idealize.ShloMosaic Cert.KernelIdeal Cert.KernelIdeal.Gen

variable {F : FTy → Type} [FloatOps F]

/-- The loads of a point: latent, its gradient, gain, key gradient, positions, frequencies. -/
abbrev loadC {a : Memref sig .tc .vmem S256x512 .bf16} (h : a.IsWhole) (x : Vec F S256x512 .bf16) (s : Fin 8) (g : Fin 4) :
    Vec F S32x128 .bf16 := View.readAt (Elt F) a.view (rectC s g).toLoadRect (h.unread x)
abbrev loadG {a : Memref sig .tc .vmem S1x512 .f32} (h : a.IsWhole) (x : Vec F S1x512 .f32) : Vec F S1x512 .f32 :=
  View.readAt (Elt F) a.view (Rect.unit ![0, 0] S1x512.size inb_S1x512_S1x512_0_0).toLoadRect (h.unread x)
abbrev loadK {a : Memref sig .tc .vmem S256x64 .bf16} (h : a.IsWhole) (x : Vec F S256x64 .bf16) (s : Fin 8) :
    Vec F S32x64 .bf16 := View.readAt (Elt F) a.view (rectK s).toLoadRect (h.unread x)
abbrev loadP {a : Memref sig .tc .vmem S2x256 .i32} (h : a.IsWhole) (x : Vec F S2x256 .i32) (r : Fin 2) :
    Vec F S2x128 .i32 := View.readAt (Elt F) a.view (rectP r).toLoadRect (h.unread x)
abbrev loadF {a : Memref sig .tc .vmem S1x128 .f32} (h : a.IsWhole) (x : Vec F S1x128 .f32) : Vec F S1x128 .f32 :=
  View.readAt (Elt F) a.view (Rect.unit ![0, 0] S1x128.size inb_S1x128_S1x128_0_0).toLoadRect (h.unread x)

theorem ld_unit2 {n₀ n₁ m₀ m₁ : Nat} {e : EltTy} (x : Vec F ⟨2, ![n₀, n₁]⟩ e) (o₀ o₁ : Nat)
    (inb : ∀ a, ![o₀, o₁] a + ![m₀, m₁] a ≤ (⟨2, ![n₀, n₁]⟩ : Shape).size a) (i : Fin m₀) (j : Fin m₁) (i' : Fin n₀) (j' : Fin n₁)
    (hi : i'.val = o₀ + i.val) (hj : j'.val = o₁ + j.val) :
    View.ld x (Rect.unit ![o₀, o₁] ![m₀, m₁] inb) (ix2 i j) = x (ix2 i' j') := by
  refine congrArg x ?_
  funext a
  apply Fin.ext
  fin_cases a
  · show o₀ + 1 * i.val = i'.val; omega
  · show o₁ + 1 * j.val = j'.val; omega

variable (b : BitVec 32) {a16 : Memref sig .tc .vmem S256x512 .bf16} (h16 : a16.IsWhole) {a8 : Memref sig .tc .vmem S256x512 .bf16}
  (h8 : a8.IsWhole) {a5 : Memref sig .tc .vmem S1x512 .f32} (h5 : a5.IsWhole) {a9 : Memref sig .tc .vmem S256x64 .bf16} (h9 : a9.IsWhole)
  {a7 : Memref sig .tc .vmem S2x256 .i32} (h7 : a7.IsWhole) {a6 : Memref sig .tc .vmem S1x128 .f32} (h6 : a6.IsWhole)
  (x4 : Vec Ideal S1x512 .f32) (x5 : Vec Ideal S1x128 .f32) (x6 : Vec Ideal S2x256 .i32) (x7 : Vec Ideal S256x512 .bf16)
  (x8 : Vec Ideal S256x64 .bf16) (xs2 : Vec Ideal S256x512 .bf16) (f : Fin 32 → EReal) (hf : ∀ l, x5 (ix2 0 l) = f (pair l))

/-- The row of the positions that a batch reads. -/
def posRow (b : BitVec 32) : Fin 2 := if b = 1#32 then 1 else 0

include hf in
theorem values : Values b (loadC h16 xs2) (loadC h8 x7) (loadG h5 x4) (loadK h9 x8) (loadP h7 x6) (loadF h6 x5)
    (fun t n => xs2 (ix2 t n)) (fun t n => x7 (ix2 t n)) (fun n => x4 (ix2 0 n)) (fun t l => x8 (ix2 t l))
    (fun t => (((x6 (ix2 (posRow b) t)).toInt : ℝ) : EReal)) f where
  hC s g i l := by
    rw [loadC, View.readAt_eq_ld, h16.read_unread]
    exact ld_unit2 xs2 _ _ _ i l _ _ rfl rfl
  hD s g i l := by
    rw [loadC, View.readAt_eq_ld, h8.read_unread]
    exact ld_unit2 x7 _ _ _ i l _ _ rfl rfl
  hG n := by
    rw [loadG, View.readAt_eq_ld, h5.read_unread]
    exact ld_unit2 x4 _ _ _ 0 n _ _ rfl (by simp)
  hK s i l := by
    rw [loadK, View.readAt_eq_ld, h9.read_unread]
    exact ld_unit2 x8 _ _ _ i l _ _ rfl (by simp)
  hP r j := by
    rw [loadP, View.readAt_eq_ld, h7.read_unread]
    exact congrArg (fun z : BitVec 32 => ((z.toInt : ℝ) : EReal)) (ld_unit2 x6 _ _ _ _ j (posRow b) (runRow r j) (by simp [posRow]) rfl)
  hf l := by
    rw [loadF, View.readAt_eq_ld, h6.read_unread, ← hf]
    exact ld_unit2 x5 _ _ _ 0 l _ _ rfl (by simp)

end Cert.KernelIdeal.Strip

end
-- ==== Proof.Weights.lean ====
/- The pieces of the two scratch arrays that hold scaled operands, the widened weight and the scaled activations, and what
   they amount to with extended reals: each entry times the scale of its block. Also the two products taken from them. -/
module

public import proofs.«01_k».proof.Proof.Loads
public import proofs.«01_k».proof.Proof.Whole
public import proofs.«01_k».proof.Proof.Gen.KernelIdeal.Skeleton

@[expose] public section

noncomputable section

namespace Cert.KernelIdeal.Strip

open Idealize.ShloMosaic Idealize.SL.Sem Cert.KernelIdeal Cert.KernelIdeal.Gen

variable {F : FTy → Type} [FloatOps F]

/-- A block of the weight times its scale: of 128 latent lanes, and of the 64 rotary lanes. -/
def wide (s : Elt F .f32) (w : Vec F S128x128 .fp8e4m3) : FVec F S128x128 .bf16 :=
  shapeCast S128x128 (mulf (extf .bf16 w bitsLt_fp8e4m3_bf16) (truncf .bf16 (broadcast S128x128 s) bitsLt_bf16_f32))
    shapeCasts_S128x128_S128x128
def wideRope (s : Elt F .f32) (w : Vec F S128x64 .fp8e4m3) : FVec F S128x64 .bf16 :=
  shapeCast S128x64 (mulf (extf .bf16 w bitsLt_fp8e4m3_bf16) (truncf .bf16 (broadcast S128x64 s) bitsLt_bf16_f32))
    shapeCasts_S128x64_S128x64

theorem slices_xs (k : Fin 32) : S256x32.Slices ![0, k.val] S256x1 := by fin_cases k <;> decide

/-- 128 channels of the activations times their tokens' scales. -/
def scaled (X : Vec F S256x32 .f32) (k : Fin 32) (A : Vec F S256x128 .fp8e4m3) : FVec F S256x128 .bf16 :=
  shapeCast S256x128 (mulf (extf .bf16 (shapeCast S256x128 A shapeCasts_S256x128_S256x128) bitsLt_fp8e4m3_bf16)
    (broadcastTo S256x128 (shapeCast S256x1 (extractStridedSlice S256x1 ![0, k.val]
      (truncf .bf16 (shapeCast S256x32 X shapeCasts_S256x32_S256x32) bitsLt_bf16_f32) (slices_xs k)) shapeCasts_S256x1_S256x1)
      broadcasts_S256x1_S256x128)) shapeCasts_S256x128_S256x128

/-! ## Where the pieces lie -/

theorem inb_w (k : Fin 32) (g : Fin 4) : ∀ a, ![128 * k.val, 128 * g.val] a + S128x128.size a ≤ S4096x576.size a := by
  intro a; fin_cases a <;> simp [S128x128, S4096x576] <;> omega
theorem inb_wr (k : Fin 32) : ∀ a, ![128 * k.val, 512] a + S128x64.size a ≤ S4096x576.size a := by
  intro a; fin_cases a <;> simp [S128x64, S4096x576]; omega
theorem inb_x (k : Fin 32) : ∀ a, ![0, 128 * k.val] a + S256x128.size a ≤ S256x4096.size a := by
  intro a; fin_cases a <;> simp [S256x128, S256x4096]; omega
theorem inb_ws (k : Fin 32) (g : Fin 5) : ∀ a, ![k.val, g.val] a + S1x1.size a ≤ S32x5.size a := by
  intro a; fin_cases a <;> simp [S1x1, S32x5] <;> omega
theorem one_pos : 0 < S1x1.numel := by decide

abbrev rectW (k : Fin 32) (g : Fin 4) : Rect S4096x576 := Rect.unit ![128 * k.val, 128 * g.val] S128x128.size (inb_w k g)
abbrev rectWr (k : Fin 32) : Rect S4096x576 := Rect.unit ![128 * k.val, 512] S128x64.size (inb_wr k)
abbrev rectX (k : Fin 32) : Rect S256x4096 := Rect.unit ![0, 128 * k.val] S256x128.size (inb_x k)

/-! ## The loads -/

abbrev loadS {a : Memref sig .tc .smem S32x5 .f32} (h : a.IsWhole) (x : Vec F S32x5 .f32) (k : Fin 32) (g : Fin 5) : Elt F .f32 :=
  View.readAt (Elt F) a.view (Rect.unit (s := S32x5) ![k.val, g.val] S1x1.size (inb_ws k g)).toLoadRect (h.unread x) (Shape.Idx.first one_pos)
abbrev loadW {a : Memref sig .tc .vmem S4096x576 .fp8e4m3} (h : a.IsWhole) (x : Vec F S4096x576 .fp8e4m3) (k : Fin 32) (g : Fin 4) :
    Vec F S128x128 .fp8e4m3 := View.readAt (Elt F) a.view (rectW k g).toLoadRect (h.unread x)
abbrev loadR {a : Memref sig .tc .vmem S4096x576 .fp8e4m3} (h : a.IsWhole) (x : Vec F S4096x576 .fp8e4m3) (k : Fin 32) :
    Vec F S128x64 .fp8e4m3 := View.readAt (Elt F) a.view (rectWr k).toLoadRect (h.unread x)
abbrev loadA {a : Memref sig .tc .vmem S256x4096 .fp8e4m3} (h : a.IsWhole) (x : Vec F S256x4096 .fp8e4m3) (k : Fin 32) :
    Vec F S256x128 .fp8e4m3 := View.readAt (Elt F) a.view (rectX k).toLoadRect (h.unread x)
abbrev loadX {a : Memref sig .tc .vmem S256x32 .f32} (h : a.IsWhole) (x : Vec F S256x32 .f32) : Vec F S256x32 .f32 :=
  View.readAt (Elt F) a.view (Rect.unit ![0, 0] S256x32.size inb_S256x32_S256x32_0_0).toLoadRect (h.unread x)

/-! ## The pieces -/

/-- The channel blocks, last first. -/
def blocks : List (Fin 32) :=
  [31, 30, 29, 28, 27, 26, 25, 24, 23, 22, 21, 20, 19, 18, 17, 16, 15, 14, 13, 12, 11, 10, 9, 8, 7, 6, 5, 4, 3, 2, 1, 0]

theorem mem_blocks (k : Fin 32) : k ∈ blocks := by fin_cases k <;> decide

/-- A latent lane group, and the rotary lanes, as a block of a row. -/
def grp5 (g : Fin 4) : Fin 5 := ⟨g.val, by omega⟩

def weightPieces (S : Fin 32 → Fin 5 → Elt F .f32) (W : Fin 32 → Fin 4 → Vec F S128x128 .fp8e4m3)
    (R : Fin 32 → Vec F S128x64 .fp8e4m3) : List (View.Piece (Elt F) S4096x576 .bf16) :=
  blocks.flatMap fun k => ⟨rectWr k, wideRope (S k 4) (R k)⟩ :: groups.map fun g => ⟨rectW k g, wide (S k (grp5 g)) (W k g)⟩

def scaledPieces (X : Vec F S256x32 .f32) (A : Fin 32 → Vec F S256x128 .fp8e4m3) : List (View.Piece (Elt F) S256x4096 .bf16) :=
  blocks.map fun k => ⟨rectX k, scaled X k (A k)⟩

/-! ## Their values -/

section Values
variable {a4 : Memref sig .tc .smem S32x5 .f32} (h4 : a4.IsWhole) {a3 : Memref sig .tc .vmem S4096x576 .fp8e4m3} (h3 : a3.IsWhole)
  {a1 : Memref sig .tc .vmem S256x4096 .fp8e4m3} (h1 : a1.IsWhole) {a2 : Memref sig .tc .vmem S256x32 .f32} (h2 : a2.IsWhole)
  (x0 : Vec Ideal S256x4096 .fp8e4m3) (x1 : Vec Ideal S256x32 .f32) (x2 : Vec Ideal S4096x576 .fp8e4m3) (x3 : Vec Ideal S32x5 .f32)

/-- Channel `j` of channel block `k`. -/
def chanOf (k : Fin 32) (j : Fin 128) : Fin 4096 := ⟨128 * k.val + j.val, by omega⟩

theorem loadS_apply (k : Fin 32) (g : Fin 5) : loadS h4 x3 k g = x3 (ix2 k g) := by
  rw [loadS, View.readAt_eq_ld, h4.read_unread]
  refine congrArg x3 ?_
  funext a
  apply Fin.ext
  fin_cases a
  · show k.val + 1 * 0 = k.val; omega
  · show g.val + 1 * 0 = g.val; omega

theorem wide_apply (k : Fin 32) (g : Fin 4) (i : Fin 128) (l : Fin 128) :
    wide (loadS h4 x3 k (grp5 g)) (loadW h3 x2 k g) (ix2 i l)
      = Spec.weight (fun k n => x2 (ix2 k n)) (fun k n => x3 (ix2 k n)) (chanOf k i) (latLane g l) := by
  have hw : loadW h3 x2 k g (ix2 i l) = x2 (ix2 (chanOf k i) (latLane g l)) := by
    rw [loadW, View.readAt_eq_ld, h3.read_unread]
    exact ld_unit2 x2 _ _ _ i l _ _ rfl rfl
  have hs := loadS_apply h4 x3 k (grp5 g)
  have hc : Spec.chan (chanOf k i) = k := Fin.ext (by show (128 * k.val + i.val) / 128 = k.val; omega)
  have hb : Spec.blockOf (latLane g l) = grp5 g := Fin.ext (by show (128 * g.val + l.val) / 128 = g.val; omega)
  unfold Spec.weight
  rw [hc, hb]
  beta_reduce
  rw [← hs, ← hw]
  pointwise [wide]

theorem wideRope_apply (k : Fin 32) (i : Fin 128) (l : Fin 64) :
    wideRope (loadS h4 x3 k 4) (loadR h3 x2 k) (ix2 i l)
      = Spec.weight (fun k n => x2 (ix2 k n)) (fun k n => x3 (ix2 k n)) (chanOf k i) (ropeLane l) := by
  have hw : loadR h3 x2 k (ix2 i l) = x2 (ix2 (chanOf k i) (ropeLane l)) := by
    rw [loadR, View.readAt_eq_ld, h3.read_unread]
    exact ld_unit2 x2 _ _ _ i l _ _ rfl rfl
  have hs := loadS_apply h4 x3 k 4
  have hc : Spec.chan (chanOf k i) = k := Fin.ext (by show (128 * k.val + i.val) / 128 = k.val; omega)
  have hb : Spec.blockOf (ropeLane l) = 4 := Fin.ext (by show (512 + l.val) / 128 = 4; omega)
  unfold Spec.weight
  rw [hc, hb]
  beta_reduce
  rw [← hs, ← hw]
  pointwise [wideRope]

theorem scaled_apply (k : Fin 32) (t : Fin 256) (j : Fin 128) :
    scaled (loadX h2 x1) k (loadA h1 x0 k) (ix2 t j)
      = x0 (ix2 t (chanOf k j)) * x1 (ix2 t k) := by
  have hx : loadA h1 x0 k (ix2 t j) = x0 (ix2 t (chanOf k j)) := by
    rw [loadA, View.readAt_eq_ld, h1.read_unread]
    exact ld_unit2 x0 _ _ _ t j _ _ (by simp) rfl
  have hs : loadX h2 x1 (ix2 t k) = x1 (ix2 t k) := by
    rw [loadX, View.readAt_eq_ld, h2.read_unread]
    exact ld_unit2 x1 _ _ _ t k _ _ (by simp) (by simp)
  rw [← hx, ← hs]
  pointwise [scaled]

/-- The widened weight. -/
theorem weight_canon (k : Fin 4096) (n : Fin 576) :
    View.canon (weightPieces (loadS h4 x3) (loadW h3 x2) (loadR h3 x2)) (ix2 k n)
      = Spec.weight (fun k n => x2 (ix2 k n)) (fun k n => x3 (ix2 k n)) k n := by
  refine (View.canon_apply_of_pieces (e := .bf16) (fun y : S4096x576.Idx =>
    Spec.weight (fun k n => x2 (ix2 k n)) (fun k n => x3 (ix2 k n)) (y 0) (y 1)) _ (fun p hp x => ?_) (ix2 k n) ?_).trans rfl
  · simp only [weightPieces, List.mem_flatMap, List.mem_cons, List.mem_map] at hp
    obtain ⟨b, -, rfl | ⟨g, -, rfl⟩⟩ := hp
    · refine (congrArg (wideRope (loadS h4 x3 b 4) (loadR h3 x2 b)) (eq_ix2 x)).trans
        ((wideRope_apply h4 h3 x2 x3 b (x 0) (x 1)).trans ?_)
      refine congrArg₂ (Spec.weight _ _) (Fin.ext ?_) (Fin.ext ?_)
      · show 128 * b.val + (x 0).val = 128 * b.val + 1 * (x 0).val; omega
      · show 512 + (x 1).val = 512 + 1 * (x 1).val; omega
    · refine (congrArg (wide (loadS h4 x3 b (grp5 g)) (loadW h3 x2 b g)) (eq_ix2 x)).trans
        ((wide_apply h4 h3 x2 x3 b g (x 0) (x 1)).trans ?_)
      refine congrArg₂ (Spec.weight _ _) (Fin.ext ?_) (Fin.ext ?_)
      · show 128 * b.val + (x 0).val = 128 * b.val + 1 * (x 0).val; omega
      · show 128 * g.val + (x 1).val = 128 * g.val + 1 * (x 1).val; omega
  · have hk := k.isLt
    have hn := n.isLt
    simp only [weightPieces, List.mem_flatMap, List.mem_cons, List.mem_map]
    by_cases h : n.val < 512
    · refine ⟨_, ⟨⟨k.val / 128, by omega⟩, mem_blocks _, .inr ⟨⟨n.val / 128, by omega⟩, mem_groups _, rfl⟩⟩, ?_⟩
      rw [Rect.mem_set_unit]
      intro a
      fin_cases a
      · show 128 * (k.val / 128) ≤ k.val ∧ k.val < 128 * (k.val / 128) + 128; omega
      · show 128 * (n.val / 128) ≤ n.val ∧ n.val < 128 * (n.val / 128) + 128; omega
    · refine ⟨_, ⟨⟨k.val / 128, by omega⟩, mem_blocks _, .inl rfl⟩, ?_⟩
      rw [Rect.mem_set_unit]
      intro a
      fin_cases a
      · show 128 * (k.val / 128) ≤ k.val ∧ k.val < 128 * (k.val / 128) + 128; omega
      · show 512 ≤ n.val ∧ n.val < 512 + 64; omega

/-- The scaled activations. -/
theorem scaled_canon (t : Fin 256) (k : Fin 4096) :
    View.canon (scaledPieces (loadX h2 x1) (loadA h1 x0)) (ix2 t k) = x0 (ix2 t k) * x1 (ix2 t (Spec.chan k)) := by
  refine (View.canon_apply_of_pieces (e := .bf16) (fun y : S256x4096.Idx =>
    x0 (ix2 (y 0) (y 1)) * x1 (ix2 (y 0) (Spec.chan (y 1)))) _ (fun p hp x => ?_) (ix2 t k) ?_).trans rfl
  · simp only [scaledPieces, List.mem_map] at hp
    obtain ⟨b, -, rfl⟩ := hp
    refine (congrArg (scaled (loadX h2 x1) b (loadA h1 x0 b)) (eq_ix2 x)).trans ((scaled_apply h1 h2 x0 x1 b (x 0) (x 1)).trans ?_)
    have hj : (x 1).val < 128 := (x 1).isLt
    have e0 : (rectX b).emb x 0 = x 0 := Fin.ext (by show 0 + 1 * (x 0).val = (x 0).val; omega)
    have e1 : (rectX b).emb x 1 = chanOf b (x 1) :=
      Fin.ext (by show 128 * b.val + 1 * (x 1).val = 128 * b.val + (x 1).val; omega)
    have e2 : Spec.chan (chanOf b (x 1)) = b := Fin.ext (by show (128 * b.val + (x 1).val) / 128 = b.val; omega)
    show _ = x0 (ix2 ((rectX b).emb x 0) ((rectX b).emb x 1)) * x1 (ix2 ((rectX b).emb x 0) (Spec.chan ((rectX b).emb x 1)))
    rw [e0, e1, e2]
  · have ht := t.isLt
    have hk := k.isLt
    simp only [scaledPieces, List.mem_map]
    refine ⟨_, ⟨⟨k.val / 128, by omega⟩, mem_blocks _, rfl⟩, ?_⟩
    rw [Rect.mem_set_unit]
    intro a
    fin_cases a
    · show 0 ≤ t.val ∧ t.val < 0 + 256; omega
    · show 128 * (k.val / 128) ≤ k.val ∧ k.val < 128 * (k.val / 128) + 128; omega
end Values

/-! ## The two products -/

theorem latent_apply (X : Vec Ideal S256x4096 .bf16) (W : Vec Ideal S4096x512 .bf16) (t : Fin 256) (n : Fin 512) :
    k0_pay230 X W (ix2 t n) = ∑ k : Fin 4096, X (ix2 t k) * W (ix2 k n) := by
  pointwise [k0_pay230]

theorem dx_apply (G : Vec Ideal S256x576 .bf16) (W : Vec Ideal S4096x576 .bf16) (t : Fin 256) (k : Fin 4096) :
    k0_pay2 G W (ix2 t k) = ∑ n : Fin 576, G (ix2 t n) * W (ix2 k n) := by
  pointwise [k0_pay2]

end Cert.KernelIdeal.Strip

end
-- ==== Proof.BridgeA.lean ====
/- The pieces that the first point stores, as the run states them: the widened weight, and the latent of the first block taken
   from it. -/
module

public import proofs.«01_k».proof.Proof.Weights
public import proofs.«01_k».proof.Proof.Gen.KernelIdeal.Frame.RunA
public import Idealize.ShloMosaic.Lib.Ring

@[expose] public section

noncomputable section

namespace Cert.KernelIdeal.Strip

open Idealize.ShloMosaic Idealize.SL.Sem Cert.KernelIdeal.Gen

variable {F : FTy → Type} [FloatOps F]
variable (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S4096x576 .fp8e4m3) (harg3 : arg3.IsWhole) (arg4 : Memref sig .tc .smem S32x5 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S2x256 .i32) (harg7 : arg7.IsWhole) (arg8 : Memref sig .tc .vmem S256x512 .bf16) (harg8 : arg8.IsWhole) (arg9 : Memref sig .tc .vmem S256x64 .bf16) (harg9 : arg9.IsWhole) (arg10 : Memref sig .tc .vmem S256x4096 .bf16) (harg10 : arg10.IsWhole) (arg11 : Memref sig .tc .vmem S1x2x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S4096x576 .bf16) (harg14 : arg14.IsWhole) (arg15 : Memref sig .tc .vmem S256x4096 .bf16) (harg15 : arg15.IsWhole) (arg16 : Memref sig .tc .vmem S256x512 .bf16) (harg16 : arg16.IsWhole) (arg17 : Memref sig .tc .vmem S256x576 .bf16) (harg17 : arg17.IsWhole) (hc0 : cond0_0 i) (hc1 : ¬cond0_1 i) (hc2 : ¬cond0_2 i)
    (x0 : Vec F S256x4096 .fp8e4m3) (x1 : Vec F S256x32 .f32) (x2 : Vec F S4096x576 .fp8e4m3) (x3 : Vec F S32x5 .f32) (x4 : Vec F S1x512 .f32) (x5 : Vec F S1x128 .f32) (x6 : Vec F S2x256 .i32) (x7 : Vec F S256x512 .bf16) (x8 : Vec F S256x64 .bf16)

set_option maxRecDepth 65536

theorem weight_A :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.2.1
      = weightPieces (loadS harg4 x3) (loadW harg3 x2) (loadR harg3 x2) := by
  sl_kernel_rfl

theorem latent_A :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.2.2.1
      = [⟨Rect.unit ![0, 0] S256x512.size inb_S256x512_S256x512_0_0,
          k0_pay230 (arg15.view.readCov (scaledPieces (loadX harg2 x1) (loadA harg1 x0))
              (Rect.unit (s := S256x4096) ![0, 0] S256x4096.size inb_S256x4096_S256x4096_0_0).toLoadRect)
            (arg14.view.readCov (weightPieces (loadS harg4 x3) (loadW harg3 x2) (loadR harg3 x2))
              (Rect.unit (s := S4096x576) ![0, 0] S4096x512.size inb_S4096x576_S4096x512_0_0).toLoadRect)⟩] := by
  sl_kernel_rfl

end Cert.KernelIdeal.Strip

end
-- ==== Proof.BridgeB.lean ====
/- The pieces that a middle point stores, as the run states them, are those of Pieces.lean and Weights.lean at the parts it loads. -/
module

public import proofs.«01_k».proof.Proof.Weights
public import proofs.«01_k».proof.Proof.Gen.KernelIdeal.Frame.RunB
public import Idealize.ShloMosaic.Lib.Ring

@[expose] public section

noncomputable section

namespace Cert.KernelIdeal.Strip

open Idealize.ShloMosaic Idealize.SL.Sem Cert.KernelIdeal.Gen

variable {F : FTy → Type} [FloatOps F]
variable (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S4096x576 .fp8e4m3) (harg3 : arg3.IsWhole) (arg4 : Memref sig .tc .smem S32x5 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S2x256 .i32) (harg7 : arg7.IsWhole) (arg8 : Memref sig .tc .vmem S256x512 .bf16) (harg8 : arg8.IsWhole) (arg9 : Memref sig .tc .vmem S256x64 .bf16) (harg9 : arg9.IsWhole) (arg10 : Memref sig .tc .vmem S256x4096 .bf16) (harg10 : arg10.IsWhole) (arg11 : Memref sig .tc .vmem S1x2x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S4096x576 .bf16) (harg14 : arg14.IsWhole) (arg15 : Memref sig .tc .vmem S256x4096 .bf16) (harg15 : arg15.IsWhole) (arg16 : Memref sig .tc .vmem S256x512 .bf16) (harg16 : arg16.IsWhole) (arg17 : Memref sig .tc .vmem S256x576 .bf16) (harg17 : arg17.IsWhole) (hc0 : ¬cond0_0 i) (hc1 : cond0_1 i) (hc2 : ¬cond0_2 i)
    (x0 : Vec F S256x4096 .fp8e4m3) (x1 : Vec F S256x32 .f32) (x2 : Vec F S4096x576 .fp8e4m3) (x3 : Vec F S32x5 .f32) (x4 : Vec F S1x512 .f32) (x5 : Vec F S1x128 .f32) (x6 : Vec F S2x256 .i32) (x7 : Vec F S256x512 .bf16) (x8 : Vec F S256x64 .bf16) (xs0 : Vec F S4096x576 .bf16) (xs2 : Vec F S256x512 .bf16)

set_option maxRecDepth 65536

theorem dgain_B :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xs0 xs2).2.1
      = dgainPieces (loadC harg16 xs2) (loadC harg8 x7) := by
  sl_kernel_rfl

theorem scales_B :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xs0 xs2).2.2.2.1
      = scalesPieces (batch (BitVec.ofNat 32 (i 0).val)) (loadC harg16 xs2) (loadC harg8 x7)
          (loadG harg5 x4) (loadK harg9 x8) (loadP harg7 x6) (loadF harg6 x5) := by
  sl_kernel_rfl

theorem codes_B :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xs0 xs2).2.2.1
      = codesPieces (batch (BitVec.ofNat 32 (i 0).val)) (loadC harg16 xs2) (loadC harg8 x7)
          (loadG harg5 x4) (loadK harg9 x8) (loadP harg7 x6) (loadF harg6 x5) := by
  sl_kernel_rfl

theorem dx_B :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xs0 xs2).1
      = [⟨Rect.unit ![0, 0] S256x4096.size inb_S256x4096_S256x4096_0_0,
          k0_pay2 (arg17.view.readCov (gradPieces (batch (BitVec.ofNat 32 (i 0).val)) (loadC harg16 xs2) (loadC harg8 x7)
              (loadG harg5 x4) (loadK harg9 x8) (loadP harg7 x6) (loadF harg6 x5))
              (Rect.unit (s := S256x576) ![0, 0] S256x576.size inb_S256x576_S256x576_0_0).toLoadRect)
            (View.readAt (Elt F) arg14.view (Rect.unit (s := S4096x576) ![0, 0] S4096x576.size inb_S4096x576_S4096x576_0_0).toLoadRect
              (harg14.unread xs0))⟩] := by
  sl_kernel_rfl

theorem latent_B :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xs0 xs2).2.2.2.2.2.1
      = [⟨Rect.unit ![0, 0] S256x512.size inb_S256x512_S256x512_0_0,
          k0_pay230 (arg15.view.readCov (scaledPieces (loadX harg2 x1) (loadA harg1 x0))
              (Rect.unit (s := S256x4096) ![0, 0] S256x4096.size inb_S256x4096_S256x4096_0_0).toLoadRect)
            (View.readAt (Elt F) arg14.view (Rect.unit (s := S4096x576) ![0, 0] S4096x512.size inb_S4096x576_S4096x512_0_0).toLoadRect
              (harg14.unread xs0))⟩] := by
  sl_kernel_rfl

end Cert.KernelIdeal.Strip

end
-- ==== Proof.BridgeC.lean ====
/- The pieces that a last point stores, as the run states them, are those of Pieces.lean and Weights.lean at the parts it loads. -/
module

public import proofs.«01_k».proof.Proof.Weights
public import proofs.«01_k».proof.Proof.Gen.KernelIdeal.Frame.RunC
public import Idealize.ShloMosaic.Lib.Ring

@[expose] public section

noncomputable section

namespace Cert.KernelIdeal.Strip

open Idealize.ShloMosaic Idealize.SL.Sem Cert.KernelIdeal.Gen

variable {F : FTy → Type} [FloatOps F]
variable (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S4096x576 .fp8e4m3) (harg3 : arg3.IsWhole) (arg4 : Memref sig .tc .smem S32x5 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S2x256 .i32) (harg7 : arg7.IsWhole) (arg8 : Memref sig .tc .vmem S256x512 .bf16) (harg8 : arg8.IsWhole) (arg9 : Memref sig .tc .vmem S256x64 .bf16) (harg9 : arg9.IsWhole) (arg10 : Memref sig .tc .vmem S256x4096 .bf16) (harg10 : arg10.IsWhole) (arg11 : Memref sig .tc .vmem S1x2x512 .f32) (harg11 : arg11.IsWhole) (arg12 : Memref sig .tc .vmem S256x576 .fp8e5m2) (harg12 : arg12.IsWhole) (arg13 : Memref sig .tc .vmem S256x5 .f32) (harg13 : arg13.IsWhole) (arg14 : Memref sig .tc .vmem S4096x576 .bf16) (harg14 : arg14.IsWhole) (arg15 : Memref sig .tc .vmem S256x4096 .bf16) (harg15 : arg15.IsWhole) (arg16 : Memref sig .tc .vmem S256x512 .bf16) (harg16 : arg16.IsWhole) (arg17 : Memref sig .tc .vmem S256x576 .bf16) (harg17 : arg17.IsWhole) (hc0 : ¬cond0_0 i) (hc1 : ¬cond0_1 i) (hc2 : cond0_2 i)
    (x0 : Vec F S256x4096 .fp8e4m3) (x1 : Vec F S256x32 .f32) (x2 : Vec F S4096x576 .fp8e4m3) (x3 : Vec F S32x5 .f32) (x4 : Vec F S1x512 .f32) (x5 : Vec F S1x128 .f32) (x6 : Vec F S2x256 .i32) (x7 : Vec F S256x512 .bf16) (x8 : Vec F S256x64 .bf16) (xs0 : Vec F S4096x576 .bf16) (xs2 : Vec F S256x512 .bf16)

set_option maxRecDepth 65536

theorem dgain_C :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xs0 xs2).2.1
      = dgainPieces (loadC harg16 xs2) (loadC harg8 x7) := by
  sl_kernel_rfl

theorem scales_C :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xs0 xs2).2.2.2.1
      = scalesPieces (batch (BitVec.ofNat 32 (i 0).val)) (loadC harg16 xs2) (loadC harg8 x7)
          (loadG harg5 x4) (loadK harg9 x8) (loadP harg7 x6) (loadF harg6 x5) := by
  sl_kernel_rfl

theorem codes_C :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xs0 xs2).2.2.1
      = codesPieces (batch (BitVec.ofNat 32 (i 0).val)) (loadC harg16 xs2) (loadC harg8 x7)
          (loadG harg5 x4) (loadK harg9 x8) (loadP harg7 x6) (loadF harg6 x5) := by
  sl_kernel_rfl

theorem dx_C :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xs0 xs2).1
      = [⟨Rect.unit ![0, 0] S256x4096.size inb_S256x4096_S256x4096_0_0,
          k0_pay2 (arg17.view.readCov (gradPieces (batch (BitVec.ofNat 32 (i 0).val)) (loadC harg16 xs2) (loadC harg8 x7)
              (loadG harg5 x4) (loadK harg9 x8) (loadP harg7 x6) (loadF harg6 x5))
              (Rect.unit (s := S256x576) ![0, 0] S256x576.size inb_S256x576_S256x576_0_0).toLoadRect)
            (View.readAt (Elt F) arg14.view (Rect.unit (s := S4096x576) ![0, 0] S4096x576.size inb_S4096x576_S4096x576_0_0).toLoadRect
              (harg14.unread xs0))⟩] := by
  sl_kernel_rfl

end Cert.KernelIdeal.Strip

end
-- ==== Proof.Points.lean ====
/- What the points of the call leave: the two carried scratch arrays (the widened weight, the latent of a block) and, from the
   second point on, the results of the block before, from the point's operand blocks and what the point before carried. -/
module

public import proofs.«01_k».proof.Proof.BridgeA
public import proofs.«01_k».proof.Proof.BridgeB
public import proofs.«01_k».proof.Proof.BridgeC
public import proofs.«01_k».proof.Proof.Gen.KernelIdeal.Value

@[expose] public section

noncomputable section

namespace Cert.KernelIdeal.Strip

open Idealize.ShloMosaic Idealize.ShloMosaic.TcCoe Cert.KernelIdeal Cert.KernelIdeal.Gen

variable (m : (ℓ : Loc nD τ sig) → Buf (Elt Ideal) ℓ) (c : Dev nD)

theorem origin2 : (![0, 0] : Fin 2 → Nat) = fun _ => 0 := by decide

/-- A point's operand blocks. -/
abbrev blk0 (t : Fin cfg0.N) : Vec Ideal S256x4096 .fp8e4m3 := iblk m c 0 t
abbrev blk1 (t : Fin cfg0.N) : Vec Ideal S256x32 .f32 := iblk m c 1 t
abbrev blk2 (t : Fin cfg0.N) : Vec Ideal S4096x576 .fp8e4m3 := iblk m c 2 t
abbrev blk3 (t : Fin cfg0.N) : Vec Ideal S32x5 .f32 := iblk m c 3 t
abbrev blk4 (t : Fin cfg0.N) : Vec Ideal S1x512 .f32 := iblk m c 4 t
abbrev blk5 (t : Fin cfg0.N) : Vec Ideal S1x128 .f32 := iblk m c 5 t
abbrev blk6 (t : Fin cfg0.N) : Vec Ideal S2x256 .i32 := iblk m c 6 t
abbrev blk7 (t : Fin cfg0.N) : Vec Ideal S256x512 .bf16 := iblk m c 7 t
abbrev blk8 (t : Fin cfg0.N) : Vec Ideal S256x64 .bf16 := iblk m c 8 t

theorem zero_lt : 0 < cfg0.N := by decide
/-- The first point. -/
def firstPoint : Fin cfg0.N := ⟨0, zero_lt⟩

/-- What point `t` leaves of the weight and of the latent; and what the point before `t` left of them. -/
abbrev wtAt (n : ℕ) (h : n < cfg0.N) : Vec Ideal S4096x576 .bf16 := (outsAt0 m c n h).2.2.2.2.1
abbrev latAt (n : ℕ) (h : n < cfg0.N) : Vec Ideal S256x512 .bf16 := (outsAt0 m c n h).2.2.2.2.2
theorem before_lt (t : Fin cfg0.N) : t.val - 1 < cfg0.N := Nat.lt_of_le_of_lt (Nat.sub_le _ _) t.isLt
abbrev wtBefore (t : Fin cfg0.N) : Vec Ideal S4096x576 .bf16 := wtAt m c (t.val - 1) (before_lt t)
abbrev latBefore (t : Fin cfg0.N) : Vec Ideal S256x512 .bf16 := latAt m c (t.val - 1) (before_lt t)

/-- The number of the batch that a point's block lies in. -/
def batchAt (t : Fin cfg0.N) : BitVec 32 := batch (BitVec.ofNat 32 (grid0.coords t 0).val)

/-- The rotated key gradient of a token of the point's block. -/
def keyAt (f : Fin 32 → EReal) (t : Fin cfg0.N) (i : Fin 256) : Fin 64 → EReal :=
  krow (fun i l => blk8 m c t (ix2 i l)) (fun i => (((blk6 m c t (ix2 (posRow (batchAt t)) i)).toInt : ℝ) : EReal)) f i

theorem cases_of (t : Fin cfg0.N) (ht : 1 ≤ t.val) : (1 ≤ t.val % 9 ∧ t.val % 9 ≤ 7) ∨ t.val % 9 = 8 := by
  have h : t.val < 9 := lt_of_lt_of_eq t.isLt N_0
  omega

/-- A load from the corner of what the stores left. -/
theorem readCov2 {n₀ n₁ m₀ m₁ : Nat} {e : EltTy} (v : View sig .tc .vmem ⟨2, ![n₀, n₁]⟩ e)
    (L : List (View.Piece (Elt Ideal) ⟨2, ![n₀, n₁]⟩ e))
    (inb : ∀ a, ![0, 0] a + ![m₀, m₁] a ≤ (⟨2, ![n₀, n₁]⟩ : Shape).size a) (i : Fin m₀) (j : Fin m₁) (i' : Fin n₀) (j' : Fin n₁)
    (hi : i'.val = i.val) (hj : j'.val = j.val) :
    v.readCov L (Rect.unit (s := ⟨2, ![n₀, n₁]⟩) ![0, 0] ![m₀, m₁] inb).toLoadRect (ix2 i j) = View.canon L (ix2 i' j') := by
  rw [View.readCov_eq_canon']
  refine congrArg (View.canon L) ?_
  funext a
  apply Fin.ext
  fin_cases a
  · show 0 + 1 * i.val = i'.val; omega
  · show 0 + 1 * j.val = j'.val; omega

section Tail
variable (t : Fin cfg0.N) (ht : 1 ≤ t.val) (f : Fin 32 → EReal) (hf : ∀ l, blk5 m c t (ix2 0 l) = f (pair l))
include ht hf

theorem dgain_at (r : Fin 2) (n : Fin 512) : (outsAt0 m c t.val t.isLt).2.1 (ix3 0 r n)
    = ∑ j : Fin 128, Spec.dgainTerm (fun n => latBefore m c t (ix2 (runRow r j) n)) (fun n => blk7 m c t (ix2 (runRow r j) n)) n := by
  obtain h | h := cases_of t ht
  · rw [outsAt0_B m c t (by omega) h (by omega)]
    dsimp only
    unfold out0_B_10
    rw [View.read_writes_junk_apply_eq_canon, dgain_B]
    exact dgain_block _ _ _ _ _ _ _ _ _ _ _ _ _ (values (batchAt t) (Memref.isWhole_whole _) (hs0_7 t) (hs0_4 t) (hs0_8 t) (hs0_6 t) (hs0_5 t) (blk4 m c t) (blk5 m c t) (blk6 m c t) (blk7 m c t) (blk8 m c t) (latBefore m c t) f hf) r n
  · rw [outsAt0_C m c t (by omega) (by omega) h]
    dsimp only
    unfold out0_C_10
    rw [View.read_writes_junk_apply_eq_canon, dgain_C]
    exact dgain_block _ _ _ _ _ _ _ _ _ _ _ _ _ (values (batchAt t) (Memref.isWhole_whole _) (hs0_7 t) (hs0_4 t) (hs0_8 t) (hs0_6 t) (hs0_5 t) (blk4 m c t) (blk5 m c t) (blk6 m c t) (blk7 m c t) (blk8 m c t) (latBefore m c t) f hf) r n

theorem codes_at (i : Fin 256) (n : Fin 576) : (outsAt0 m c t.val t.isLt).2.2.1 (ix2 i n)
    = Spec.code (fun n => latBefore m c t (ix2 i n)) (fun n => blk7 m c t (ix2 i n)) (fun n => blk4 m c t (ix2 0 n)) (keyAt m c f t i) n := by
  obtain h | h := cases_of t ht
  · rw [outsAt0_B m c t (by omega) h (by omega)]
    dsimp only
    unfold out0_B_11
    rw [View.read_writes_junk_apply_eq_canon, codes_B]
    exact codes_block _ _ _ _ _ _ _ _ _ _ _ _ _ (values (batchAt t) (Memref.isWhole_whole _) (hs0_7 t) (hs0_4 t) (hs0_8 t) (hs0_6 t) (hs0_5 t) (blk4 m c t) (blk5 m c t) (blk6 m c t) (blk7 m c t) (blk8 m c t) (latBefore m c t) f hf) i n
  · rw [outsAt0_C m c t (by omega) (by omega) h]
    dsimp only
    unfold out0_C_11
    rw [View.read_writes_junk_apply_eq_canon, codes_C]
    exact codes_block _ _ _ _ _ _ _ _ _ _ _ _ _ (values (batchAt t) (Memref.isWhole_whole _) (hs0_7 t) (hs0_4 t) (hs0_8 t) (hs0_6 t) (hs0_5 t) (blk4 m c t) (blk5 m c t) (blk6 m c t) (blk7 m c t) (blk8 m c t) (latBefore m c t) f hf) i n

theorem scales_at (i : Fin 256) (n : Fin 5) : (outsAt0 m c t.val t.isLt).2.2.2.1 (ix2 i n)
    = Spec.scale (fun n => latBefore m c t (ix2 i n)) (fun n => blk7 m c t (ix2 i n)) (fun n => blk4 m c t (ix2 0 n)) (keyAt m c f t i) n := by
  obtain h | h := cases_of t ht
  · rw [outsAt0_B m c t (by omega) h (by omega)]
    dsimp only
    unfold out0_B_12
    rw [View.read_writes_junk_apply_eq_canon, scales_B]
    exact scales_block _ _ _ _ _ _ _ _ _ _ _ _ _ (values (batchAt t) (Memref.isWhole_whole _) (hs0_7 t) (hs0_4 t) (hs0_8 t) (hs0_6 t) (hs0_5 t) (blk4 m c t) (blk5 m c t) (blk6 m c t) (blk7 m c t) (blk8 m c t) (latBefore m c t) f hf) i n
  · rw [outsAt0_C m c t (by omega) (by omega) h]
    dsimp only
    unfold out0_C_12
    rw [View.read_writes_junk_apply_eq_canon, scales_C]
    exact scales_block _ _ _ _ _ _ _ _ _ _ _ _ _ (values (batchAt t) (Memref.isWhole_whole _) (hs0_7 t) (hs0_4 t) (hs0_8 t) (hs0_6 t) (hs0_5 t) (blk4 m c t) (blk5 m c t) (blk6 m c t) (blk7 m c t) (blk8 m c t) (latBefore m c t) f hf) i n

theorem dx_at (i : Fin 256) (k : Fin 4096) : (outsAt0 m c t.val t.isLt).1 (ix2 i k)
    = Spec.inputGrad (Spec.grad (fun n => latBefore m c t (ix2 i n)) (fun n => blk7 m c t (ix2 i n)) (fun n => blk4 m c t (ix2 0 n))
        (keyAt m c f t i)) (fun k n => wtBefore m c t (ix2 k n)) k := by
  unfold Spec.inputGrad
  obtain h | h := cases_of t ht
  · rw [outsAt0_B m c t (by omega) h (by omega)]
    dsimp only
    unfold out0_B_9
    rw [View.read_writes_junk_apply_eq_canon, dx_B]
    rw [View.canon_unit_zero origin2, dx_apply]
    refine Finset.sum_congr rfl fun (n : Fin 576) _ => congrArg₂ (· * ·) ?_ ?_
    · refine (readCov2 _ _ _ i n i n rfl rfl).trans ?_
      exact grad_block _ _ _ _ _ _ _ _ _ _ _ _ _ (values (batchAt t) (Memref.isWhole_whole _) (hs0_7 t) (hs0_4 t) (hs0_8 t) (hs0_6 t) (hs0_5 t) (blk4 m c t) (blk5 m c t) (blk6 m c t) (blk7 m c t) (blk8 m c t) (latBefore m c t) f hf) i n
    · rw [View.readAt_eq_ld, Memref.IsWhole.read_unread]
      exact ld_unit2 _ 0 0 _ k n k n (by omega) (by omega)
  · rw [outsAt0_C m c t (by omega) (by omega) h]
    dsimp only
    unfold out0_C_9
    rw [View.read_writes_junk_apply_eq_canon, dx_C]
    rw [View.canon_unit_zero origin2, dx_apply]
    refine Finset.sum_congr rfl fun (n : Fin 576) _ => congrArg₂ (· * ·) ?_ ?_
    · refine (readCov2 _ _ _ i n i n rfl rfl).trans ?_
      exact grad_block _ _ _ _ _ _ _ _ _ _ _ _ _ (values (batchAt t) (Memref.isWhole_whole _) (hs0_7 t) (hs0_4 t) (hs0_8 t) (hs0_6 t) (hs0_5 t) (blk4 m c t) (blk5 m c t) (blk6 m c t) (blk7 m c t) (blk8 m c t) (latBefore m c t) f hf) i n
    · rw [View.readAt_eq_ld, Memref.IsWhole.read_unread]
      exact ld_unit2 _ 0 0 _ k n k n (by omega) (by omega)

end Tail

/-- Every point but the first keeps the weight. -/
theorem weight_kept (t : Fin cfg0.N) (ht : 1 ≤ t.val) : wtAt m c t.val t.isLt = wtBefore m c t := by
  unfold wtAt wtBefore
  obtain h | h := cases_of t ht
  · rw [outsAt0_B m c t (by omega) h (by omega)]; rfl
  · rw [outsAt0_C m c t (by omega) (by omega) h]; rfl

theorem weight_first (k : Fin 4096) (j : Fin 576) : wtAt m c firstPoint.val firstPoint.isLt (ix2 k j)
    = Spec.weight (fun k n => blk2 m c firstPoint (ix2 k n)) (fun k n => blk3 m c firstPoint (ix2 k n)) k j := by
  unfold wtAt
  rw [outsAt0_A m c firstPoint rfl (by decide) (by decide)]
  dsimp only
  unfold sout0_A_0
  rw [View.read_writes_junk_apply_eq_canon, weight_A]
  exact weight_canon _ _ _ _ k j

/-- The widened weight, from the first point on. -/
theorem weight_at : ∀ (n : ℕ) (h : n < cfg0.N) (k : Fin 4096) (j : Fin 576), wtAt m c n h (ix2 k j)
    = Spec.weight (fun k n => blk2 m c firstPoint (ix2 k n)) (fun k n => blk3 m c firstPoint (ix2 k n)) k j
  | 0, _, k, j => weight_first m c k j
  | n + 1, h, k, j => (congrFun (weight_kept m c ⟨n + 1, h⟩ (Nat.succ_le_succ (Nat.zero_le n))) (ix2 k j)).trans
      (weight_at n (Nat.lt_of_succ_lt h) k j)

/-- The latent that a point but the last leaves: of its activation block. -/
theorem latent_at (t : Fin cfg0.N) (ht : t.val ≤ 7) (i : Fin 256) (n : Fin 512) : latAt m c t.val t.isLt (ix2 i n)
    = Spec.latent (fun k => blk0 m c t (ix2 i k)) (fun k => blk1 m c t (ix2 i k))
        (Spec.weight (fun k n => blk2 m c firstPoint (ix2 k n)) (fun k n => blk3 m c firstPoint (ix2 k n))) n := by
  unfold Spec.latent
  by_cases h0 : t.val = 0
  · obtain rfl : t = firstPoint := Fin.ext h0
    unfold latAt
    rw [outsAt0_A m c firstPoint rfl (by decide) (by decide)]
    dsimp only
    unfold sout0_A_2
    rw [View.read_writes_junk_apply_eq_canon, latent_A, View.canon_unit_zero origin2, latent_apply]
    refine Finset.sum_congr rfl fun (k : Fin 4096) _ => congrArg₂ (· * ·) ?_ ?_
    · exact (readCov2 _ _ _ i k i k rfl rfl).trans (scaled_canon _ _ _ _ i k)
    · exact (readCov2 _ _ _ k n k (Spec.latCol n) rfl rfl).trans (weight_canon _ _ _ _ k (Spec.latCol n))
  · unfold latAt
    rw [outsAt0_B m c t (by omega) (by omega) (by omega)]
    dsimp only
    unfold sout0_B_2
    rw [View.read_writes_junk_apply_eq_canon, latent_B, View.canon_unit_zero origin2, latent_apply]
    refine Finset.sum_congr rfl fun (k : Fin 4096) _ => congrArg₂ (· * ·) ?_ ?_
    · exact (readCov2 _ _ _ i k i k rfl rfl).trans (scaled_canon _ _ _ _ i k)
    · rw [View.readAt_eq_ld, Memref.IsWhole.read_unread]
      exact (ld_unit2 _ 0 0 _ k n k (Spec.latCol n) (by omega) (by show n.val = 0 + n.val; omega)).trans
        (weight_at m c (t.val - 1) (before_lt t) k (Spec.latCol n))

end Cert.KernelIdeal.Strip

end
-- ==== Proof.KernelHost.lean ====
/- What the kernel's call is given: the host's reshapes and the frequency table. -/
module

public import proofs.«01_k».proof.Proof.Weights
public import proofs.«01_k».proof.Proof.RefHost
public import proofs.«01_k».proof.Proof.Gen.KernelIdeal.Value

@[expose] public section

noncomputable section

namespace Cert.KernelIdeal.Strip

open Idealize.ShloMosaic Idealize.ShloMosaic.TcCoe Cert.KernelIdeal Cert.KernelIdeal.Gen

variable (m : (ℓ : Loc nD τ sig) → Buf (Elt Ideal) ℓ) (c : Dev nD)

/-- The argument arrays. -/
abbrev argX : Vec Ideal S2x1024x4096 .fp8e4m3 := m ((c : Thread nD τ).loc main_arg0)
abbrev argXs : Vec Ideal S2x1024x32 .f32 := m ((c : Thread nD τ).loc main_arg1)
abbrev argW : Vec Ideal S4096x576 .fp8e4m3 := m ((c : Thread nD τ).loc main_arg2)
abbrev argWs : Vec Ideal S32x5 .f32 := m ((c : Thread nD τ).loc main_arg3)
abbrev argG : Vec Ideal S512 .f32 := m ((c : Thread nD τ).loc main_arg4)
abbrev argP : Vec Ideal S2x1024 .i32 := m ((c : Thread nD τ).loc main_arg5)
abbrev argD : Vec Ideal S2x1024x512 .bf16 := m ((c : Thread nD τ).loc main_arg6)
abbrev argK : Vec Ideal S2x1024x64 .bf16 := m ((c : Thread nD τ).loc main_arg7)

open Cert.ReferenceIdeal.Rows (freq)

/-- The frequency table lists the reference's frequencies, each pair's twice, in each half. -/
theorem table : ∀ l : Fin 128, lit0 l = Cert.ReferenceIdeal.lit0 (pair l) := by decide +kernel

theorem atF (l : Fin 128) : (V m c main_v0 : Vec Ideal S1x128 .f32) (ix2 0 l) = freq (pair l) := by
  simp only [V, hostOps0, List.flatten_cons, List.flatten_nil, List.append_nil, List.cons_append, List.nil_append]
  after_results_simp
  pointwise []
  refine (congrArg (fun j => Ideal.ofBits .f32 (lit0 j)) (Fin.ext (rowMajor_val1 (ix1 l)))).trans ?_
  exact congrArg (Ideal.ofBits .f32) (table l)
theorem atX (t : Fin 2048) (n : Fin 4096) : (V m c main_v1 : Vec Ideal S2048x4096 .fp8e4m3) (ix2 t n)
    = argX m c (ix3 (Spec.Inputs.batch t) (Spec.Inputs.place t) n) := by
  simp only [V, hostOps0, List.flatten_cons, List.flatten_nil, List.append_nil, List.cons_append, List.nil_append]
  after_results_simp
  pointwise []
  rfl
theorem atXs (t : Fin 2048) (n : Fin 32) : (V m c main_v2 : Vec Ideal S2048x32 .f32) (ix2 t n)
    = argXs m c (ix3 (Spec.Inputs.batch t) (Spec.Inputs.place t) n) := by
  simp only [V, hostOps0, List.flatten_cons, List.flatten_nil, List.append_nil, List.cons_append, List.nil_append]
  after_results_simp
  pointwise []
  rfl
theorem atG (n : Fin 512) : (V m c main_v3 : Vec Ideal S1x512 .f32) (ix2 0 n) = argG m c (ix1 n) := by
  simp only [V, hostOps0, List.flatten_cons, List.flatten_nil, List.append_nil, List.cons_append, List.nil_append]
  after_results_simp
  pointwise []
theorem atD (t : Fin 2048) (n : Fin 512) : (V m c main_v4 : Vec Ideal S2048x512 .bf16) (ix2 t n)
    = argD m c (ix3 (Spec.Inputs.batch t) (Spec.Inputs.place t) n) := by
  simp only [V, hostOps0, List.flatten_cons, List.flatten_nil, List.append_nil, List.cons_append, List.nil_append]
  after_results_simp
  pointwise []
  rfl
theorem atK (t : Fin 2048) (n : Fin 64) : (V m c main_v5 : Vec Ideal S2048x64 .bf16) (ix2 t n)
    = argK m c (ix3 (Spec.Inputs.batch t) (Spec.Inputs.place t) n) := by
  simp only [V, hostOps0, List.flatten_cons, List.flatten_nil, List.append_nil, List.cons_append, List.nil_append]
  after_results_simp
  pointwise []
  rfl

/-- The inputs, from the argument arrays. -/
def args : Spec.Inputs :=
  .ofArgs (fun b s k => argX m c (ix3 b s k)) (fun b s k => argXs m c (ix3 b s k)) (fun k n => argW m c (ix2 k n))
    (fun k n => argWs m c (ix2 k n)) (fun n => argG m c (ix1 n)) (fun b s => argP m c (ix2 b s))
    (fun b s n => argD m c (ix3 b s n)) (fun b s n => argK m c (ix3 b s n)) freq

end Cert.KernelIdeal.Strip

end
-- ==== Proof.KernelArrays.lean ====
/- The kernel's four result arrays, from the argument arrays: block `t - 1` of each is what point `t` leaves. -/
module

public import proofs.«01_k».proof.Proof.Points
public import proofs.«01_k».proof.Proof.KernelHost
public import Idealize.ShloMosaic.Lib.Pipeline.ValueKit

@[expose] public section

noncomputable section

namespace Cert.KernelIdeal.Strip

open Idealize.ShloMosaic Idealize.ShloMosaic.TcCoe Cert.KernelIdeal Cert.KernelIdeal.Gen
open Cert.ReferenceIdeal.Rows (freq)

variable (m : (ℓ : Loc nD τ sig) → Buf (Elt Ideal) ℓ) (c : Dev nD)

/-! ## Which block of its array each window holds at a point -/

theorem index0 : ∀ (t : Fin cfg0.N) a, win0_0.index t a = ![min t.val 7, 0] a :=
  (by decide +kernel : ∀ (t : Fin grid0.N) a, win0_0.index t a = ![min t.val 7, 0] a)
theorem index1 : ∀ (t : Fin cfg0.N) a, win0_1.index t a = ![min t.val 7, 0] a :=
  (by decide +kernel : ∀ (t : Fin grid0.N) a, win0_1.index t a = ![min t.val 7, 0] a)
theorem index2 : ∀ (t : Fin cfg0.N) a, win0_2.index t a = 0 := (by decide +kernel : ∀ (t : Fin grid0.N) a, win0_2.index t a = 0)
theorem index3 : ∀ (t : Fin cfg0.N) a, win0_3.index t a = 0 := (by decide +kernel : ∀ (t : Fin grid0.N) a, win0_3.index t a = 0)
theorem index4 : ∀ (t : Fin cfg0.N) a, win0_4.index t a = 0 := (by decide +kernel : ∀ (t : Fin grid0.N) a, win0_4.index t a = 0)
theorem index5 : ∀ (t : Fin cfg0.N) a, win0_5.index t a = 0 := (by decide +kernel : ∀ (t : Fin grid0.N) a, win0_5.index t a = 0)
theorem index6 : ∀ (t : Fin cfg0.N) a, win0_6.index t a = ![0, (t.val - 1) % 4] a :=
  (by decide +kernel : ∀ (t : Fin grid0.N) a, win0_6.index t a = ![0, (t.val - 1) % 4] a)
theorem index7 : ∀ (t : Fin cfg0.N) a, win0_7.index t a = ![t.val - 1, 0] a :=
  (by decide +kernel : ∀ (t : Fin grid0.N) a, win0_7.index t a = ![t.val - 1, 0] a)
theorem index8 : ∀ (t : Fin cfg0.N) a, win0_8.index t a = ![t.val - 1, 0] a :=
  (by decide +kernel : ∀ (t : Fin grid0.N) a, win0_8.index t a = ![t.val - 1, 0] a)
theorem index9 : ∀ (t : Fin cfg0.N) a, win0_9.index t a = ![t.val - 1, 0] a :=
  (by decide +kernel : ∀ (t : Fin grid0.N) a, win0_9.index t a = ![t.val - 1, 0] a)
theorem index10 : ∀ (t : Fin cfg0.N) a, win0_10.index t a = ![t.val - 1, 0, 0] a :=
  (by decide +kernel : ∀ (t : Fin grid0.N) a, win0_10.index t a = ![t.val - 1, 0, 0] a)
theorem index11 : ∀ (t : Fin cfg0.N) a, win0_11.index t a = ![t.val - 1, 0] a :=
  (by decide +kernel : ∀ (t : Fin grid0.N) a, win0_11.index t a = ![t.val - 1, 0] a)
theorem index12 : ∀ (t : Fin cfg0.N) a, win0_12.index t a = ![t.val - 1, 0] a :=
  (by decide +kernel : ∀ (t : Fin grid0.N) a, win0_12.index t a = ![t.val - 1, 0] a)

/-- The first point writes no block back. -/
theorem flush9 : ∀ t : Fin cfg0.N, (cfg0.win 9).flush t = true → 1 ≤ t.val :=
  (by decide +kernel : ∀ t : Fin grid0.N, (cfg0.win 9).flush t = true → 1 ≤ t.val)
theorem flush10 : ∀ t : Fin cfg0.N, (cfg0.win 10).flush t = true → 1 ≤ t.val :=
  (by decide +kernel : ∀ t : Fin grid0.N, (cfg0.win 10).flush t = true → 1 ≤ t.val)
theorem flush11 : ∀ t : Fin cfg0.N, (cfg0.win 11).flush t = true → 1 ≤ t.val :=
  (by decide +kernel : ∀ t : Fin grid0.N, (cfg0.win 11).flush t = true → 1 ≤ t.val)
theorem flush12 : ∀ t : Fin cfg0.N, (cfg0.win 12).flush t = true → 1 ≤ t.val :=
  (by decide +kernel : ∀ t : Fin grid0.N, (cfg0.win 12).flush t = true → 1 ≤ t.val)

/-! ## The operand blocks, as rows of the inputs -/

/-- Token `i` of the block whose results point `t` leaves. -/
def tokenOf (t : Fin cfg0.N) (i : Fin 256) : Fin 2048 :=
  ⟨256 * (t.val - 1) + i.val, by have h : t.val < 9 := lt_of_lt_of_eq t.isLt N_0; omega⟩

theorem operand0 (t : Fin cfg0.N) (i : Fin 256) (k : Fin 4096) (T : Fin 2048) (hT : T.val = 256 * min t.val 7 + i.val) :
    blk0 m c t (ix2 i k) = (args m c).x T k := by
  refine Eq.trans ?_ (atX m c T k)
  blk_simp [iblk]
  exact congrArg (V m c main_v1) (by blk_ext [index0, hT])
theorem operand1 (t : Fin cfg0.N) (i : Fin 256) (k : Fin 32) (T : Fin 2048) (hT : T.val = 256 * min t.val 7 + i.val) :
    blk1 m c t (ix2 i k) = (args m c).xs T k := by
  refine Eq.trans ?_ (atXs m c T k)
  blk_simp [iblk]
  exact congrArg (V m c main_v2) (by blk_ext [index1, hT])
theorem operand2 (t : Fin cfg0.N) (k : Fin 4096) (n : Fin 576) : blk2 m c t (ix2 k n) = (args m c).w k n := by
  refine Eq.trans ?_ (congrFun (V_main_arg2 m c) (ix2 k n))
  blk_simp [iblk]
  exact congrArg (V m c main_arg2) (by blk_ext [index2])
theorem operand3 (t : Fin cfg0.N) (k : Fin 32) (n : Fin 5) : blk3 m c t (ix2 k n) = (args m c).ws k n := by
  refine Eq.trans ?_ (congrFun (V_main_arg3 m c) (ix2 k n))
  blk_simp [iblk]
  exact congrArg (V m c main_arg3) (by blk_ext [index3])
theorem operand4 (t : Fin cfg0.N) (n : Fin 512) : blk4 m c t (ix2 0 n) = (args m c).gn n := by
  refine Eq.trans ?_ (atG m c n)
  blk_simp [iblk]
  exact congrArg (V m c main_v3) (by blk_ext [index4])
theorem operand5 (t : Fin cfg0.N) (l : Fin 128) : blk5 m c t (ix2 0 l) = freq (pair l) := by
  refine Eq.trans ?_ (atF m c l)
  blk_simp [iblk]
  exact congrArg (V m c main_v0) (by blk_ext [index5])
theorem operand6 (t : Fin cfg0.N) (r : Fin 2) (i : Fin 256) (s : Fin 1024) (hs : s.val = 256 * ((t.val - 1) % 4) + i.val) :
    blk6 m c t (ix2 r i) = argP m c (ix2 r s) := by
  refine Eq.trans ?_ (congrFun (V_main_arg5 m c) (ix2 r s))
  blk_simp [iblk]
  exact congrArg (V m c main_arg5) (by blk_ext [index6, hs])
theorem operand7 (t : Fin cfg0.N) (i : Fin 256) (n : Fin 512) : blk7 m c t (ix2 i n) = (args m c).d (tokenOf t i) n := by
  refine Eq.trans ?_ (atD m c (tokenOf t i) n)
  blk_simp [iblk]
  exact congrArg (V m c main_v4) (by blk_ext [index7, tokenOf])
theorem operand8 (t : Fin cfg0.N) (i : Fin 256) (n : Fin 64) : blk8 m c t (ix2 i n)
    = argK m c (ix3 (Spec.Inputs.batch (tokenOf t i)) (Spec.Inputs.place (tokenOf t i)) n) := by
  refine Eq.trans ?_ (atK m c (tokenOf t i) n)
  blk_simp [iblk]
  exact congrArg (V m c main_v5) (by blk_ext [index8, tokenOf])

/-! ## What is carried, and the rotated key gradient, for the block of point `t` -/

theorem weight_eq (n : ℕ) (h : n < cfg0.N) (k : Fin 4096) (j : Fin 576) : wtAt m c n h (ix2 k j) = (args m c).wt k j := by
  rw [weight_at]
  exact congrFun (congrFun (congrArg₂ Spec.weight (funext fun k => funext fun n => operand2 m c firstPoint k n)
    (funext fun k => funext fun n => operand3 m c firstPoint k n)) k) j

theorem latent_eq (t : Fin cfg0.N) (ht : 1 ≤ t.val) (i : Fin 256) (n : Fin 512) :
    latBefore m c t (ix2 i n) = (args m c).c (tokenOf t i) n := by
  have h : t.val < 9 := lt_of_lt_of_eq t.isLt N_0
  refine (latent_at m c ⟨t.val - 1, before_lt t⟩ (by dsimp only; omega) i n).trans ?_
  unfold Spec.Inputs.c
  have hT : (tokenOf t i).val = 256 * min (⟨t.val - 1, before_lt t⟩ : Fin cfg0.N).val 7 + i.val := by
    unfold tokenOf; dsimp only; omega
  rw [show (fun k => blk0 m c ⟨t.val - 1, before_lt t⟩ (ix2 i k)) = (args m c).x (tokenOf t i) from
      funext fun k => operand0 m c _ i k _ hT,
    show (fun k => blk1 m c ⟨t.val - 1, before_lt t⟩ (ix2 i k)) = (args m c).xs (tokenOf t i) from
      funext fun k => operand1 m c _ i k _ hT]
  refine congrFun (congrArg (Spec.latent _ _) ?_) n
  exact congrArg₂ Spec.weight (funext fun k => funext fun n => operand2 m c firstPoint k n)
    (funext fun k => funext fun n => operand3 m c firstPoint k n)

theorem posRow_at : ∀ t : Fin cfg0.N, 1 ≤ t.val → (posRow (batchAt t)).val = (t.val - 1) / 4 :=
  (by decide +kernel : ∀ t : Fin grid0.N, 1 ≤ t.val → (posRow (batchAt t)).val = (t.val - 1) / 4)

theorem key_eq (t : Fin cfg0.N) (ht : 1 ≤ t.val) (i : Fin 256) : keyAt m c freq t i = (args m c).k (tokenOf t i) := by
  have h : t.val < 9 := lt_of_lt_of_eq t.isLt N_0
  have hr : posRow (batchAt t) = Spec.Inputs.batch (tokenOf t i) := Fin.ext ((posRow_at t ht).trans (by
    show (t.val - 1) / 4 = (256 * (t.val - 1) + i.val) / 1024; omega))
  have hp := operand6 m c t (posRow (batchAt t)) i (Spec.Inputs.place (tokenOf t i)) (by
    show (256 * (t.val - 1) + i.val) % 1024 = 256 * ((t.val - 1) % 4) + i.val; omega)
  unfold keyAt krow
  beta_reduce
  rw [hp, hr, show (fun l => blk8 m c t (ix2 i l)) = _ from funext fun l => operand8 m c t i l]
  rfl

/-! ## The results at an index of a block -/

theorem dx_row (t : Fin cfg0.N) (ht : 1 ≤ t.val) (i : Fin 256) (k : Fin 4096) :
    (outsAt0 m c t.val t.isLt).1 (ix2 i k) = (args m c).dx (tokenOf t i) k := by
  rw [dx_at m c t ht freq (operand5 m c t), key_eq m c t ht]
  simp only [latent_eq m c t ht, operand7, operand4, weight_eq]
  rfl
theorem codes_row (t : Fin cfg0.N) (ht : 1 ≤ t.val) (i : Fin 256) (n : Fin 576) :
    (outsAt0 m c t.val t.isLt).2.2.1 (ix2 i n) = (args m c).codes (tokenOf t i) n := by
  rw [codes_at m c t ht freq (operand5 m c t), key_eq m c t ht]
  simp only [latent_eq m c t ht, operand7, operand4]
  rfl
theorem scales_row (t : Fin cfg0.N) (ht : 1 ≤ t.val) (i : Fin 256) (n : Fin 5) :
    (outsAt0 m c t.val t.isLt).2.2.2.1 (ix2 i n) = (args m c).scales (tokenOf t i) n := by
  rw [scales_at m c t ht freq (operand5 m c t), key_eq m c t ht]
  simp only [latent_eq m c t ht, operand7, operand4]
  rfl
/-- The block whose results point `t` leaves. -/
def blockAt (t : Fin cfg0.N) : Fin 8 := ⟨t.val - 1, by have h : t.val < 9 := lt_of_lt_of_eq t.isLt N_0; omega⟩
theorem dgain_row (t : Fin cfg0.N) (ht : 1 ≤ t.val) (u : Fin 1) (r : Fin 2) (n : Fin 512) :
    (outsAt0 m c t.val t.isLt).2.1 (ix3 u r n) = (args m c).dgain (blockAt t) r n := by
  rw [Subsingleton.elim u 0]
  rw [dgain_at m c t ht freq (operand5 m c t)]
  simp only [latent_eq m c t ht, operand7]
  rfl

/-! ## The four arrays -/

theorem dx_array : ((dats m 0 c).arrAt 9 cfg0.N : Vec Ideal S2048x4096 .bf16) = fun i => (args m c).dx (i 0) (i 1) := by
  refine (dats m 0 c).arrAt_eq_of_covers 9 _ (by decide +kernel) fun t hf y => ?_
  blk_simp
  rw [after0_9]
  refine (congrArg _ (eq_ix2 y)).trans ((dx_row m c t (flush9 t hf) (y 0) (y 1)).trans ?_)
  exact congrArg₂ (args m c).dx (Fin.ext (by blk_simp [index9]; exact congrArg (· + (y 0).val) (Nat.mul_comm _ _))) (Fin.ext (by blk_simp [index9]))
theorem codes_array : ((dats m 0 c).arrAt 11 cfg0.N : Vec Ideal S2048x576 .fp8e5m2) = fun i => (args m c).codes (i 0) (i 1) := by
  refine (dats m 0 c).arrAt_eq_of_covers 11 _ (by decide +kernel) fun t hf y => ?_
  blk_simp
  rw [after0_11]
  refine (congrArg _ (eq_ix2 y)).trans ((codes_row m c t (flush11 t hf) (y 0) (y 1)).trans ?_)
  exact congrArg₂ (args m c).codes (Fin.ext (by blk_simp [index11]; exact congrArg (· + (y 0).val) (Nat.mul_comm _ _))) (Fin.ext (by blk_simp [index11]))
theorem scales_array : ((dats m 0 c).arrAt 12 cfg0.N : Vec Ideal S2048x5 .f32) = fun i => (args m c).scales (i 0) (i 1) := by
  refine (dats m 0 c).arrAt_eq_of_covers 12 _ (by decide +kernel) fun t hf y => ?_
  blk_simp
  rw [after0_12]
  refine (congrArg _ (eq_ix2 y)).trans ((scales_row m c t (flush12 t hf) (y 0) (y 1)).trans ?_)
  exact congrArg₂ (args m c).scales (Fin.ext (by blk_simp [index12]; exact congrArg (· + (y 0).val) (Nat.mul_comm _ _))) (Fin.ext (by blk_simp [index12]))
theorem dgain_array : ((dats m 0 c).arrAt 10 cfg0.N : Vec Ideal S8x2x512 .f32) = fun i => (args m c).dgain (i 0) (i 1) (i 2) := by
  refine (dats m 0 c).arrAt_eq_of_covers 10 _ (by decide +kernel) fun t hf y => ?_
  blk_simp
  rw [after0_10]
  refine (congrArg _ (eq_ix3 y)).trans ((dgain_row m c t (flush10 t hf) (y 0) (y 1) (y 2)).trans ?_)
  have h0 : (y 0).val = 0 := Nat.lt_one_iff.mp (y 0).isLt
  have e0 : blockAt t = (win0_10.blk t).view.emb y 0 := Fin.ext (by blk_simp [index10, blockAt, h0])
  have e1 : y 1 = (win0_10.blk t).view.emb y 1 := Fin.ext (by blk_simp [index10])
  have e2 : y 2 = (win0_10.blk t).view.emb y 2 := Fin.ext (by blk_simp [index10])
  exact (congrFun (congrFun (congrArg (args m c).dgain e0) _) _).trans (congrArg₂ ((args m c).dgain _) e1 e2)

end Cert.KernelIdeal.Strip

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.RefArrays
public import proofs.«01_k».proof.Proof.KernelArrays
public import Idealize.ShloMosaic.Adequacy
public import Idealize.ShloMosaic.Init

@[expose] public section

noncomputable section

namespace Cert.Proof

open Idealize.ShloMosaic Idealize.SL.Sem Cert.Kernel

/-- The four result arrays of the specification. -/
abbrev dxOf (A : Spec.Inputs) : Vec Ideal S2048x4096 .bf16 := fun i => A.dx (i 0) (i 1)
abbrev dgainOf (A : Spec.Inputs) : Vec Ideal S8x2x512 .f32 := fun i => A.dgain (i 0) (i 1) (i 2)
abbrev codesOf (A : Spec.Inputs) : Vec Ideal S2048x576 .fp8e5m2 := fun i => A.codes (i 0) (i 1)
abbrev scalesOf (A : Spec.Inputs) : Vec Ideal S2048x5 .f32 := fun i => A.scales (i 0) (i 1)

/-- Memories agreeing on the arguments hold the same inputs. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : Cert.ReferenceIdeal.Rows.argX m' c = Cert.KernelIdeal.Strip.argX m c)
    (h1 : Cert.ReferenceIdeal.Rows.argXs m' c = Cert.KernelIdeal.Strip.argXs m c)
    (h2 : Cert.ReferenceIdeal.Rows.argW m' c = Cert.KernelIdeal.Strip.argW m c)
    (h3 : Cert.ReferenceIdeal.Rows.argWs m' c = Cert.KernelIdeal.Strip.argWs m c)
    (h4 : Cert.ReferenceIdeal.Rows.argG m' c = Cert.KernelIdeal.Strip.argG m c)
    (h5 : Cert.ReferenceIdeal.Rows.argP m' c = Cert.KernelIdeal.Strip.argP m c)
    (h6 : Cert.ReferenceIdeal.Rows.argD m' c = Cert.KernelIdeal.Strip.argD m c)
    (h7 : Cert.ReferenceIdeal.Rows.argK m' c = Cert.KernelIdeal.Strip.argK m c) :
    Cert.ReferenceIdeal.Rows.args m' c = Cert.KernelIdeal.Strip.args m c := by
  unfold Cert.ReferenceIdeal.Rows.args Cert.KernelIdeal.Strip.args
  rw [h0, h1, h2, h3, h4, h5, h6, h7]

/-- The kernel and the reference leave the same four arrays: each array of both is the specification's, at the same inputs. -/
theorem algebraic : Cert.algebraic_KernelIdeal_ReferenceIdeal (hKernelIdeal := Cert.KernelIdeal.Gen.facts)
    (hReferenceIdeal := Cert.ReferenceIdeal.Gen.facts) := by
  intro m g m' g' _ h
  have ha (c : Dev Cert.KernelIdeal.nD) : Cert.ReferenceIdeal.Rows.args m' c = Cert.KernelIdeal.Strip.args m c := by
    obtain ⟨h0, h1, h2, h3, h4, h5, h6, h7⟩ := h c
    exact args_eq m m' c h0 h1 h2 h3 h4 h5 h6 h7
  refine ⟨fun c => dxOf (Cert.KernelIdeal.Strip.args m c), fun c => dgainOf (Cert.KernelIdeal.Strip.args m c),
    fun c => codesOf (Cert.KernelIdeal.Strip.args m c), fun c => scalesOf (Cert.KernelIdeal.Strip.args m c), ?_, ?_⟩
  · refine (θ_run _ _ _).mono (fun r hr c => ?_) (Cert.KernelIdeal.Value.run_blocks m g)
    obtain ⟨r0, r1, r2, r3, kept⟩ := hr c
    exact ⟨r0.trans (Cert.KernelIdeal.Strip.dx_array m c), r1.trans (Cert.KernelIdeal.Strip.dgain_array m c),
      r2.trans (Cert.KernelIdeal.Strip.codes_array m c), r3.trans (Cert.KernelIdeal.Strip.scales_array m c), kept⟩
  · refine (θ_run _ _ _).mono (fun r hr c => ?_) (Cert.ReferenceIdeal.Value.run_blocks m' g')
    obtain ⟨r0, r1, r2, r3, kept⟩ := hr c
    exact ⟨r0.trans ((Cert.ReferenceIdeal.Rows.dx_array m' c).trans (congrArg dxOf (ha c))),
      r1.trans ((Cert.ReferenceIdeal.Rows.dgain_array m' c).trans (congrArg dgainOf (ha c))),
      r2.trans ((Cert.ReferenceIdeal.Rows.codes_array m' c).trans (congrArg codesOf (ha c))),
      r3.trans ((Cert.ReferenceIdeal.Rows.scales_array m' c).trans (congrArg scalesOf (ha c))), kept⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
